-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![2048, 512]⟩ ⟨2, ![8192, 512]⟩ (Layout.meshBlock [2, 4, 4] ![[1], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v4) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2048x512 : Shape := ⟨2, ![2048, 512]⟩
abbrev S1024x512 : Shape := ⟨2, ![1024, 512]⟩
abbrev S8 : Shape := ⟨1, ![8]⟩
abbrev S_ : Shape := ⟨0, ![]⟩
abbrev S1 : Shape := ⟨1, ![1]⟩
abbrev S128x512 : Shape := ⟨2, ![128, 512]⟩

abbrev nBuf : Space → Nat
  | .hbm => 2
  | .vmem => 8
  | .smem => 0
  | _ => 0

abbrev bufTy : (tb : Table) → Fin (tcTables nBuf tb) → BufTy
  | .hbm, ⟨0, _⟩ => ⟨S2048x512, .bf16⟩
  | .hbm, ⟨1, _⟩ => ⟨S2048x512, .f32⟩
  | .local _ .vmem, ⟨0, _⟩ => ⟨S2048x512, .bf16⟩
  | .local _ .vmem, ⟨1, _⟩ => ⟨S2048x512, .f32⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .bf16⟩
  | .local _ .vmem, ⟨7, _⟩ => ⟨S1024x512, .bf16⟩
  | _, _ => ⟨S2048x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 1 → Bool
  | ⟨0, _⟩ => false
  | _ => false

abbrev dmaSemScoped : Fin 66 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | _ => false

abbrev sig : RefSig :=
  (ofTc nBuf bufTy 1 66 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_scratch4 : Ref sig .tc := ⟨.vmem, 6, rfl⟩
abbrev cc0_scratch5 : Ref sig .tc := ⟨.vmem, 7, rfl⟩
abbrev cc0_sem0_0 : DmaSem sig := 0
abbrev cc0_sem1_0 : DmaSem sig := 1
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32_16 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_15 : BitVec 32 := 16#32
  let v23 : BitVec 32 := Scalar.muli v2 c16_i32_15
  let v24 : BitVec 32 := Scalar.addi c0_i32_16 v23
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_17 : BitVec 32 := 4#32
  let v25 : BitVec 32 := Scalar.muli v5 c4_i32_17
  let v26 : BitVec 32 := Scalar.addi v24 v25
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3 : BitVec 32 := 1#32
  let v10 : BitVec 32 := Scalar.addi v8 c1_i32_3
  let c2_i32_4 : BitVec 32 := 2#32
  let c2_i32_2 : BitVec 32 := 2#32
  let v9 : BitVec 32 := Scalar.remsi v8 c2_i32_2
  let v11 : BitVec 32 := Scalar.muli c2_i32_4 v9
  let v12 : BitVec 32 := Scalar.subi v10 v11
  let c1_i32_18 : BitVec 32 := 1#32
  let v27 : BitVec 32 := Scalar.muli v12 c1_i32_18
  let v28 : BitVec 32 := Scalar.addi v26 v27
  v28.toNat
def k0_cond1 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_5 : BitVec 32 := 1#32
  let v13 : BitVec 1 := Scalar.cmpi .eq v5 c1_i32_5
  let c2_i32_6 : BitVec 32 := 2#32
  let v14 : BitVec 1 := Scalar.cmpi .eq v5 c2_i32_6
  let v15 : BitVec 1 := Scalar.ori v13 v14
  let v29 : BitVec 32 := Scalar.extui v15
  let c0_i32_19 : BitVec 32 := 0#32
  let v30 : BitVec 1 := Scalar.cmpi .ne v29 c0_i32_19
  v30

def k0_dev2 (d0 : Dev nD) : Nat :=
  let c0_i32_29 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_28 : BitVec 32 := 16#32
  let v47 : BitVec 32 := Scalar.muli v2 c16_i32_28
  let v48 : BitVec 32 := Scalar.addi c0_i32_29 v47
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_10 : BitVec 32 := 1#32
  let v18 : BitVec 1 := Scalar.cmpi .eq v5 c1_i32_10
  let c0_i32 : BitVec 32 := 0#32
  let c3_i32 : BitVec 32 := 3#32
  let v19 : BitVec 32 := Scalar.select v18 c0_i32 c3_i32
  let c4_i32_30 : BitVec 32 := 4#32
  let v49 : BitVec 32 := Scalar.muli v19 c4_i32_30
  let v50 : BitVec 32 := Scalar.addi v48 v49
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_31 : BitVec 32 := 1#32
  let v51 : BitVec 32 := Scalar.muli v8 c1_i32_31
  let v52 : BitVec 32 := Scalar.addi v50 v51
  v52.toNat
def k0_dev3 (d0 : Dev nD) : Nat :=
  let c0_i32_34 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_33 : BitVec 32 := 16#32
  let v53 : BitVec 32 := Scalar.muli v2 c16_i32_33
  let v54 : BitVec 32 := Scalar.addi c0_i32_34 v53
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_7 : BitVec 32 := 1#32
  let v16 : BitVec 1 := Scalar.cmpi .eq v5 c1_i32_7
  let c2_i32_8 : BitVec 32 := 2#32
  let c1_i32_9 : BitVec 32 := 1#32
  let v17 : BitVec 32 := Scalar.select v16 c2_i32_8 c1_i32_9
  let c4_i32_35 : BitVec 32 := 4#32
  let v55 : BitVec 32 := Scalar.muli v17 c4_i32_35
  let v56 : BitVec 32 := Scalar.addi v54 v55
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_36 : BitVec 32 := 1#32
  let v57 : BitVec 32 := Scalar.muli v8 c1_i32_36
  let v58 : BitVec 32 := Scalar.addi v56 v57
  v58.toNat
def k0_cond2 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_5 : BitVec 32 := 1#32
  let v13 : BitVec 1 := Scalar.cmpi .eq v5 c1_i32_5
  let c2_i32_6 : BitVec 32 := 2#32
  let v14 : BitVec 1 := Scalar.cmpi .eq v5 c2_i32_6
  let v15 : BitVec 1 := Scalar.ori v13 v14
  let v_true : BitVec 1 := 1#1
  let v31 : BitVec 1 := Scalar.xori v15 v_true
  let v32 : BitVec 32 := Scalar.extui v31
  let c0_i32_20 : BitVec 32 := 0#32
  let v33 : BitVec 1 := Scalar.cmpi .ne v32 c0_i32_20
  v33

def k0_dev4 (d0 : Dev nD) : Nat :=
  let c0_i32_29 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_28 : BitVec 32 := 16#32
  let v47 : BitVec 32 := Scalar.muli v2 c16_i32_28
  let v48 : BitVec 32 := Scalar.addi c0_i32_29 v47
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_11 : BitVec 32 := 0#32
  let v20 : BitVec 1 := Scalar.cmpi .eq v5 c0_i32_11
  let c1_i32_12 : BitVec 32 := 1#32
  let c2_i32_13 : BitVec 32 := 2#32
  let v21 : BitVec 32 := Scalar.select v20 c1_i32_12 c2_i32_13
  let c4_i32_30 : BitVec 32 := 4#32
  let v49 : BitVec 32 := Scalar.muli v21 c4_i32_30
  let v50 : BitVec 32 := Scalar.addi v48 v49
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_31 : BitVec 32 := 1#32
  let v51 : BitVec 32 := Scalar.muli v8 c1_i32_31
  let v52 : BitVec 32 := Scalar.addi v50 v51
  v52.toNat
def k0_off1 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let v9 : BitVec 32 := Scalar.remsi v8 c2_i32_2
  let c1024_i32 : BitVec 32 := 1024#32
  let v34 : BitVec 32 := Scalar.muli v9 c1024_i32
  let v36 : Index := Scalar.indexCast v34
  let c0 : Index := 0#32
  ![v36.toNat, 0]
def k0_cond3 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_5 : BitVec 32 := 1#32
  let v13 : BitVec 1 := Scalar.cmpi .eq v5 c1_i32_5
  let c2_i32_6 : BitVec 32 := 2#32
  let v14 : BitVec 1 := Scalar.cmpi .eq v5 c2_i32_6
  let v15 : BitVec 1 := Scalar.ori v13 v14
  let true_24 : BitVec 1 := 1#1
  let v42 : BitVec 1 := Scalar.xori v15 true_24
  let v43 : BitVec 32 := Scalar.extui v42
  let c0_i32_25 : BitVec 32 := 0#32
  let v44 : BitVec 1 := Scalar.cmpi .ne v43 c0_i32_25
  v44

def k0_dev5 (d0 : Dev nD) : Nat :=
  let c0_i32_30 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_29 : BitVec 32 := 16#32
  let v47 : BitVec 32 := Scalar.muli v2 c16_i32_29
  let v48 : BitVec 32 := Scalar.addi c0_i32_30 v47
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_11 : BitVec 32 := 0#32
  let v20 : BitVec 1 := Scalar.cmpi .eq v5 c0_i32_11
  let c1_i32_12 : BitVec 32 := 1#32
  let c2_i32_13 : BitVec 32 := 2#32
  let v21 : BitVec 32 := Scalar.select v20 c1_i32_12 c2_i32_13
  let c4_i32_31 : BitVec 32 := 4#32
  let v49 : BitVec 32 := Scalar.muli v21 c4_i32_31
  let v50 : BitVec 32 := Scalar.addi v48 v49
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_32 : BitVec 32 := 1#32
  let v51 : BitVec 32 := Scalar.muli v8 c1_i32_32
  let v52 : BitVec 32 := Scalar.addi v50 v51
  v52.toNat
def k0_dev6 (d0 : Dev nD) : Nat :=
  let c0_i32_40 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_39 : BitVec 32 := 16#32
  let v59 : BitVec 32 := Scalar.muli v2 c16_i32_39
  let v60 : BitVec 32 := Scalar.addi c0_i32_40 v59
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_11 : BitVec 32 := 0#32
  let v20 : BitVec 1 := Scalar.cmpi .eq v5 c0_i32_11
  let c1_i32_12 : BitVec 32 := 1#32
  let c2_i32_13 : BitVec 32 := 2#32
  let v21 : BitVec 32 := Scalar.select v20 c1_i32_12 c2_i32_13
  let c4_i32_41 : BitVec 32 := 4#32
  let v61 : BitVec 32 := Scalar.muli v21 c4_i32_41
  let v62 : BitVec 32 := Scalar.addi v60 v61
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_42 : BitVec 32 := 1#32
  let v63 : BitVec 32 := Scalar.muli v8 c1_i32_42
  let v64 : BitVec 32 := Scalar.addi v62 v63
  v64.toNat
def k0_dev7 (d0 : Dev nD) : Nat :=
  let c0_i32_49 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_48 : BitVec 32 := 16#32
  let v71 : BitVec 32 := Scalar.muli v2 c16_i32_48
  let v72 : BitVec 32 := Scalar.addi c0_i32_49 v71
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_11 : BitVec 32 := 0#32
  let v20 : BitVec 1 := Scalar.cmpi .eq v5 c0_i32_11
  let c1_i32_12 : BitVec 32 := 1#32
  let c2_i32_13 : BitVec 32 := 2#32
  let v21 : BitVec 32 := Scalar.select v20 c1_i32_12 c2_i32_13
  let c4_i32_50 : BitVec 32 := 4#32
  let v73 : BitVec 32 := Scalar.muli v21 c4_i32_50
  let v74 : BitVec 32 := Scalar.addi v72 v73
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_51 : BitVec 32 := 1#32
  let v75 : BitVec 32 := Scalar.muli v8 c1_i32_51
  let v76 : BitVec 32 := Scalar.addi v74 v75
  v76.toNat
def k0_dev8 (d0 : Dev nD) : Nat :=
  let c0_i32_58 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_57 : BitVec 32 := 16#32
  let v83 : BitVec 32 := Scalar.muli v2 c16_i32_57
  let v84 : BitVec 32 := Scalar.addi c0_i32_58 v83
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_11 : BitVec 32 := 0#32
  let v20 : BitVec 1 := Scalar.cmpi .eq v5 c0_i32_11
  let c1_i32_12 : BitVec 32 := 1#32
  let c2_i32_13 : BitVec 32 := 2#32
  let v21 : BitVec 32 := Scalar.select v20 c1_i32_12 c2_i32_13
  let c4_i32_59 : BitVec 32 := 4#32
  let v85 : BitVec 32 := Scalar.muli v21 c4_i32_59
  let v86 : BitVec 32 := Scalar.addi v84 v85
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_60 : BitVec 32 := 1#32
  let v87 : BitVec 32 := Scalar.muli v8 c1_i32_60
  let v88 : BitVec 32 := Scalar.addi v86 v87
  v88.toNat
def k0_dev9 (d0 : Dev nD) : Nat :=
  let c0_i32_67 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_66 : BitVec 32 := 16#32
  let v95 : BitVec 32 := Scalar.muli v2 c16_i32_66
  let v96 : BitVec 32 := Scalar.addi c0_i32_67 v95
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_11 : BitVec 32 := 0#32
  let v20 : BitVec 1 := Scalar.cmpi .eq v5 c0_i32_11
  let c1_i32_12 : BitVec 32 := 1#32
  let c2_i32_13 : BitVec 32 := 2#32
  let v21 : BitVec 32 := Scalar.select v20 c1_i32_12 c2_i32_13
  let c4_i32_68 : BitVec 32 := 4#32
  let v97 : BitVec 32 := Scalar.muli v21 c4_i32_68
  let v98 : BitVec 32 := Scalar.addi v96 v97
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_69 : BitVec 32 := 1#32
  let v99 : BitVec 32 := Scalar.muli v8 c1_i32_69
  let v100 : BitVec 32 := Scalar.addi v98 v99
  v100.toNat
def k0_dev10 (d0 : Dev nD) : Nat :=
  let c0_i32_75 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_74 : BitVec 32 := 16#32
  let v107 : BitVec 32 := Scalar.muli v2 c16_i32_74
  let v108 : BitVec 32 := Scalar.addi c0_i32_75 v107
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_11 : BitVec 32 := 0#32
  let v20 : BitVec 1 := Scalar.cmpi .eq v5 c0_i32_11
  let c1_i32_12 : BitVec 32 := 1#32
  let c2_i32_13 : BitVec 32 := 2#32
  let v21 : BitVec 32 := Scalar.select v20 c1_i32_12 c2_i32_13
  let c4_i32_76 : BitVec 32 := 4#32
  let v109 : BitVec 32 := Scalar.muli v21 c4_i32_76
  let v110 : BitVec 32 := Scalar.addi v108 v109
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_77 : BitVec 32 := 1#32
  let v111 : BitVec 32 := Scalar.muli v8 c1_i32_77
  let v112 : BitVec 32 := Scalar.addi v110 v111
  v112.toNat
def k0_dev11 (d0 : Dev nD) : Nat :=
  let c0_i32_83 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_82 : BitVec 32 := 16#32
  let v119 : BitVec 32 := Scalar.muli v2 c16_i32_82
  let v120 : BitVec 32 := Scalar.addi c0_i32_83 v119
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_11 : BitVec 32 := 0#32
  let v20 : BitVec 1 := Scalar.cmpi .eq v5 c0_i32_11
  let c1_i32_12 : BitVec 32 := 1#32
  let c2_i32_13 : BitVec 32 := 2#32
  let v21 : BitVec 32 := Scalar.select v20 c1_i32_12 c2_i32_13
  let c4_i32_84 : BitVec 32 := 4#32
  let v121 : BitVec 32 := Scalar.muli v21 c4_i32_84
  let v122 : BitVec 32 := Scalar.addi v120 v121
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_85 : BitVec 32 := 1#32
  let v123 : BitVec 32 := Scalar.muli v8 c1_i32_85
  let v124 : BitVec 32 := Scalar.addi v122 v123
  v124.toNat
def k0_dev12 (d0 : Dev nD) : Nat :=
  let c0_i32_91 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_90 : BitVec 32 := 16#32
  let v131 : BitVec 32 := Scalar.muli v2 c16_i32_90
  let v132 : BitVec 32 := Scalar.addi c0_i32_91 v131
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_11 : BitVec 32 := 0#32
  let v20 : BitVec 1 := Scalar.cmpi .eq v5 c0_i32_11
  let c1_i32_12 : BitVec 32 := 1#32
  let c2_i32_13 : BitVec 32 := 2#32
  let v21 : BitVec 32 := Scalar.select v20 c1_i32_12 c2_i32_13
  let c4_i32_92 : BitVec 32 := 4#32
  let v133 : BitVec 32 := Scalar.muli v21 c4_i32_92
  let v134 : BitVec 32 := Scalar.addi v132 v133
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_93 : BitVec 32 := 1#32
  let v135 : BitVec 32 := Scalar.muli v8 c1_i32_93
  let v136 : BitVec 32 := Scalar.addi v134 v135
  v136.toNat
def k0_dev13 (d0 : Dev nD) : Nat :=
  let c0_i32_110 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_109 : BitVec 32 := 16#32
  let v153 : BitVec 32 := Scalar.muli v2 c16_i32_109
  let v154 : BitVec 32 := Scalar.addi c0_i32_110 v153
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_111 : BitVec 32 := 4#32
  let v155 : BitVec 32 := Scalar.muli v5 c4_i32_111
  let v156 : BitVec 32 := Scalar.addi v154 v155
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3 : BitVec 32 := 1#32
  let v10 : BitVec 32 := Scalar.addi v8 c1_i32_3
  let c2_i32_4 : BitVec 32 := 2#32
  let c2_i32_2 : BitVec 32 := 2#32
  let v9 : BitVec 32 := Scalar.remsi v8 c2_i32_2
  let v11 : BitVec 32 := Scalar.muli c2_i32_4 v9
  let v12 : BitVec 32 := Scalar.subi v10 v11
  let c1_i32_112 : BitVec 32 := 1#32
  let v157 : BitVec 32 := Scalar.muli v12 c1_i32_112
  let v158 : BitVec 32 := Scalar.addi v156 v157
  v158.toNat
def k0_off2 (d0 : Dev nD) (c0_i32_119 : BitVec 32) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let v9 : BitVec 32 := Scalar.remsi v8 c2_i32_2
  let c1024_i32 : BitVec 32 := 1024#32
  let v34 : BitVec 32 := Scalar.muli v9 c1024_i32
  let v167 : BitVec 32 := Scalar.addi v34 c0_i32_119
  let v168 : Index := Scalar.indexCast v167
  let c0_120 : Index := 0#32
  ![v168.toNat, 0]
def k0_dev14 (d0 : Dev nD) : Nat :=
  let c0_i32_134 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_133 : BitVec 32 := 16#32
  let v180 : BitVec 32 := Scalar.muli v2 c16_i32_133
  let v181 : BitVec 32 := Scalar.addi c0_i32_134 v180
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_135 : BitVec 32 := 4#32
  let v182 : BitVec 32 := Scalar.muli v5 c4_i32_135
  let v183 : BitVec 32 := Scalar.addi v181 v182
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3 : BitVec 32 := 1#32
  let v10 : BitVec 32 := Scalar.addi v8 c1_i32_3
  let c2_i32_4 : BitVec 32 := 2#32
  let c2_i32_2 : BitVec 32 := 2#32
  let v9 : BitVec 32 := Scalar.remsi v8 c2_i32_2
  let v11 : BitVec 32 := Scalar.muli c2_i32_4 v9
  let v12 : BitVec 32 := Scalar.subi v10 v11
  let c1_i32_136 : BitVec 32 := 1#32
  let v184 : BitVec 32 := Scalar.muli v12 c1_i32_136
  let v185 : BitVec 32 := Scalar.addi v183 v184
  v185.toNat
def k0_dev15 (d0 : Dev nD) : Nat :=
  let c0_i32_157 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_156 : BitVec 32 := 16#32
  let v207 : BitVec 32 := Scalar.muli v2 c16_i32_156
  let v208 : BitVec 32 := Scalar.addi c0_i32_157 v207
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_158 : BitVec 32 := 4#32
  let v209 : BitVec 32 := Scalar.muli v5 c4_i32_158
  let v210 : BitVec 32 := Scalar.addi v208 v209
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3 : BitVec 32 := 1#32
  let v10 : BitVec 32 := Scalar.addi v8 c1_i32_3
  let c2_i32_4 : BitVec 32 := 2#32
  let c2_i32_2 : BitVec 32 := 2#32
  let v9 : BitVec 32 := Scalar.remsi v8 c2_i32_2
  let v11 : BitVec 32 := Scalar.muli c2_i32_4 v9
  let v12 : BitVec 32 := Scalar.subi v10 v11
  let c1_i32_159 : BitVec 32 := 1#32
  let v211 : BitVec 32 := Scalar.muli v12 c1_i32_159
  let v212 : BitVec 32 := Scalar.addi v210 v211
  v212.toNat
def k0_dev16 (d0 : Dev nD) : Nat :=
  let c0_i32_180 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_179 : BitVec 32 := 16#32
  let v234 : BitVec 32 := Scalar.muli v2 c16_i32_179
  let v235 : BitVec 32 := Scalar.addi c0_i32_180 v234
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_181 : BitVec 32 := 4#32
  let v236 : BitVec 32 := Scalar.muli v5 c4_i32_181
  let v237 : BitVec 32 := Scalar.addi v235 v236
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3 : BitVec 32 := 1#32
  let v10 : BitVec 32 := Scalar.addi v8 c1_i32_3
  let c2_i32_4 : BitVec 32 := 2#32
  let c2_i32_2 : BitVec 32 := 2#32
  let v9 : BitVec 32 := Scalar.remsi v8 c2_i32_2
  let v11 : BitVec 32 := Scalar.muli c2_i32_4 v9
  let v12 : BitVec 32 := Scalar.subi v10 v11
  let c1_i32_182 : BitVec 32 := 1#32
  let v238 : BitVec 32 := Scalar.muli v12 c1_i32_182
  let v239 : BitVec 32 := Scalar.addi v237 v238
  v239.toNat
def k0_dev17 (d0 : Dev nD) : Nat :=
  let c0_i32_203 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_202 : BitVec 32 := 16#32
  let v261 : BitVec 32 := Scalar.muli v2 c16_i32_202
  let v262 : BitVec 32 := Scalar.addi c0_i32_203 v261
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_204 : BitVec 32 := 4#32
  let v263 : BitVec 32 := Scalar.muli v5 c4_i32_204
  let v264 : BitVec 32 := Scalar.addi v262 v263
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3 : BitVec 32 := 1#32
  let v10 : BitVec 32 := Scalar.addi v8 c1_i32_3
  let c2_i32_4 : BitVec 32 := 2#32
  let c2_i32_2 : BitVec 32 := 2#32
  let v9 : BitVec 32 := Scalar.remsi v8 c2_i32_2
  let v11 : BitVec 32 := Scalar.muli c2_i32_4 v9
  let v12 : BitVec 32 := Scalar.subi v10 v11
  let c1_i32_205 : BitVec 32 := 1#32
  let v265 : BitVec 32 := Scalar.muli v12 c1_i32_205
  let v266 : BitVec 32 := Scalar.addi v264 v265
  v266.toNat
def k0_dev18 (d0 : Dev nD) : Nat :=
  let c0_i32_226 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_225 : BitVec 32 := 16#32
  let v288 : BitVec 32 := Scalar.muli v2 c16_i32_225
  let v289 : BitVec 32 := Scalar.addi c0_i32_226 v288
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_227 : BitVec 32 := 4#32
  let v290 : BitVec 32 := Scalar.muli v5 c4_i32_227
  let v291 : BitVec 32 := Scalar.addi v289 v290
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3 : BitVec 32 := 1#32
  let v10 : BitVec 32 := Scalar.addi v8 c1_i32_3
  let c2_i32_4 : BitVec 32 := 2#32
  let c2_i32_2 : BitVec 32 := 2#32
  let v9 : BitVec 32 := Scalar.remsi v8 c2_i32_2
  let v11 : BitVec 32 := Scalar.muli c2_i32_4 v9
  let v12 : BitVec 32 := Scalar.subi v10 v11
  let c1_i32_228 : BitVec 32 := 1#32
  let v292 : BitVec 32 := Scalar.muli v12 c1_i32_228
  let v293 : BitVec 32 := Scalar.addi v291 v292
  v293.toNat
def k0_dev19 (d0 : Dev nD) : Nat :=
  let c0_i32_249 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_248 : BitVec 32 := 16#32
  let v315 : BitVec 32 := Scalar.muli v2 c16_i32_248
  let v316 : BitVec 32 := Scalar.addi c0_i32_249 v315
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_250 : BitVec 32 := 4#32
  let v317 : BitVec 32 := Scalar.muli v5 c4_i32_250
  let v318 : BitVec 32 := Scalar.addi v316 v317
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3 : BitVec 32 := 1#32
  let v10 : BitVec 32 := Scalar.addi v8 c1_i32_3
  let c2_i32_4 : BitVec 32 := 2#32
  let c2_i32_2 : BitVec 32 := 2#32
  let v9 : BitVec 32 := Scalar.remsi v8 c2_i32_2
  let v11 : BitVec 32 := Scalar.muli c2_i32_4 v9
  let v12 : BitVec 32 := Scalar.subi v10 v11
  let c1_i32_251 : BitVec 32 := 1#32
  let v319 : BitVec 32 := Scalar.muli v12 c1_i32_251
  let v320 : BitVec 32 := Scalar.addi v318 v319
  v320.toNat
def k0_dev20 (d0 : Dev nD) : Nat :=
  let c0_i32_272 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_271 : BitVec 32 := 16#32
  let v342 : BitVec 32 := Scalar.muli v2 c16_i32_271
  let v343 : BitVec 32 := Scalar.addi c0_i32_272 v342
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_273 : BitVec 32 := 4#32
  let v344 : BitVec 32 := Scalar.muli v5 c4_i32_273
  let v345 : BitVec 32 := Scalar.addi v343 v344
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3 : BitVec 32 := 1#32
  let v10 : BitVec 32 := Scalar.addi v8 c1_i32_3
  let c2_i32_4 : BitVec 32 := 2#32
  let c2_i32_2 : BitVec 32 := 2#32
  let v9 : BitVec 32 := Scalar.remsi v8 c2_i32_2
  let v11 : BitVec 32 := Scalar.muli c2_i32_4 v9
  let v12 : BitVec 32 := Scalar.subi v10 v11
  let c1_i32_274 : BitVec 32 := 1#32
  let v346 : BitVec 32 := Scalar.muli v12 c1_i32_274
  let v347 : BitVec 32 := Scalar.addi v345 v346
  v347.toNat
def k0_off3 (d0 : Dev nD) (c0_i32_294 : BitVec 32) : Fin 2 → Nat :=
  let c1024_i32_21 : BitVec 32 := 1024#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let v9 : BitVec 32 := Scalar.remsi v8 c2_i32_2
  let c1024_i32 : BitVec 32 := 1024#32
  let v34 : BitVec 32 := Scalar.muli v9 c1024_i32
  let v35 : BitVec 32 := Scalar.subi c1024_i32_21 v34
  let v371 : BitVec 32 := Scalar.addi v35 c0_i32_294
  let v372 : Index := Scalar.indexCast v371
  let c0_295 : Index := 0#32
  ![v372.toNat, 0]
def k0_cond4 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_5 : BitVec 32 := 1#32
  let v13 : BitVec 1 := Scalar.cmpi .eq v5 c1_i32_5
  let c2_i32_6 : BitVec 32 := 2#32
  let v14 : BitVec 1 := Scalar.cmpi .eq v5 c2_i32_6
  let v15 : BitVec 1 := Scalar.ori v13 v14
  let v45 : BitVec 32 := Scalar.extui v15
  let c0_i32_26 : BitVec 32 := 0#32
  let v46 : BitVec 1 := Scalar.cmpi .ne v45 c0_i32_26
  v46

def k0_dev21 (d0 : Dev nD) : Nat :=
  let c0_i32_46 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_45 : BitVec 32 := 16#32
  let v66 : BitVec 32 := Scalar.muli v2 c16_i32_45
  let v67 : BitVec 32 := Scalar.addi c0_i32_46 v66
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_7 : BitVec 32 := 1#32
  let v16 : BitVec 1 := Scalar.cmpi .eq v5 c1_i32_7
  let c2_i32_8 : BitVec 32 := 2#32
  let c1_i32_9 : BitVec 32 := 1#32
  let v17 : BitVec 32 := Scalar.select v16 c2_i32_8 c1_i32_9
  let c4_i32_47 : BitVec 32 := 4#32
  let v68 : BitVec 32 := Scalar.muli v17 c4_i32_47
  let v69 : BitVec 32 := Scalar.addi v67 v68
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_48 : BitVec 32 := 1#32
  let v70 : BitVec 32 := Scalar.muli v8 c1_i32_48
  let v71 : BitVec 32 := Scalar.addi v69 v70
  v71.toNat
def k0_dev22 (d0 : Dev nD) : Nat :=
  let c0_i32_70 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_69 : BitVec 32 := 16#32
  let v97 : BitVec 32 := Scalar.muli v2 c16_i32_69
  let v98 : BitVec 32 := Scalar.addi c0_i32_70 v97
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_7 : BitVec 32 := 1#32
  let v16 : BitVec 1 := Scalar.cmpi .eq v5 c1_i32_7
  let c2_i32_8 : BitVec 32 := 2#32
  let c1_i32_9 : BitVec 32 := 1#32
  let v17 : BitVec 32 := Scalar.select v16 c2_i32_8 c1_i32_9
  let c4_i32_71 : BitVec 32 := 4#32
  let v99 : BitVec 32 := Scalar.muli v17 c4_i32_71
  let v100 : BitVec 32 := Scalar.addi v98 v99
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_72 : BitVec 32 := 1#32
  let v101 : BitVec 32 := Scalar.muli v8 c1_i32_72
  let v102 : BitVec 32 := Scalar.addi v100 v101
  v102.toNat
def k0_dev23 (d0 : Dev nD) : Nat :=
  let c0_i32_94 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_93 : BitVec 32 := 16#32
  let v128 : BitVec 32 := Scalar.muli v2 c16_i32_93
  let v129 : BitVec 32 := Scalar.addi c0_i32_94 v128
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_7 : BitVec 32 := 1#32
  let v16 : BitVec 1 := Scalar.cmpi .eq v5 c1_i32_7
  let c2_i32_8 : BitVec 32 := 2#32
  let c1_i32_9 : BitVec 32 := 1#32
  let v17 : BitVec 32 := Scalar.select v16 c2_i32_8 c1_i32_9
  let c4_i32_95 : BitVec 32 := 4#32
  let v130 : BitVec 32 := Scalar.muli v17 c4_i32_95
  let v131 : BitVec 32 := Scalar.addi v129 v130
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_96 : BitVec 32 := 1#32
  let v132 : BitVec 32 := Scalar.muli v8 c1_i32_96
  let v133 : BitVec 32 := Scalar.addi v131 v132
  v133.toNat
def k0_dev24 (d0 : Dev nD) : Nat :=
  let c0_i32_118 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_117 : BitVec 32 := 16#32
  let v159 : BitVec 32 := Scalar.muli v2 c16_i32_117
  let v160 : BitVec 32 := Scalar.addi c0_i32_118 v159
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_7 : BitVec 32 := 1#32
  let v16 : BitVec 1 := Scalar.cmpi .eq v5 c1_i32_7
  let c2_i32_8 : BitVec 32 := 2#32
  let c1_i32_9 : BitVec 32 := 1#32
  let v17 : BitVec 32 := Scalar.select v16 c2_i32_8 c1_i32_9
  let c4_i32_119 : BitVec 32 := 4#32
  let v161 : BitVec 32 := Scalar.muli v17 c4_i32_119
  let v162 : BitVec 32 := Scalar.addi v160 v161
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_120 : BitVec 32 := 1#32
  let v163 : BitVec 32 := Scalar.muli v8 c1_i32_120
  let v164 : BitVec 32 := Scalar.addi v162 v163
  v164.toNat
def k0_dev25 (d0 : Dev nD) : Nat :=
  let c0_i32_142 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_141 : BitVec 32 := 16#32
  let v190 : BitVec 32 := Scalar.muli v2 c16_i32_141
  let v191 : BitVec 32 := Scalar.addi c0_i32_142 v190
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_7 : BitVec 32 := 1#32
  let v16 : BitVec 1 := Scalar.cmpi .eq v5 c1_i32_7
  let c2_i32_8 : BitVec 32 := 2#32
  let c1_i32_9 : BitVec 32 := 1#32
  let v17 : BitVec 32 := Scalar.select v16 c2_i32_8 c1_i32_9
  let c4_i32_143 : BitVec 32 := 4#32
  let v192 : BitVec 32 := Scalar.muli v17 c4_i32_143
  let v193 : BitVec 32 := Scalar.addi v191 v192
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_144 : BitVec 32 := 1#32
  let v194 : BitVec 32 := Scalar.muli v8 c1_i32_144
  let v195 : BitVec 32 := Scalar.addi v193 v194
  v195.toNat
def k0_dev26 (d0 : Dev nD) : Nat :=
  let c0_i32_165 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_164 : BitVec 32 := 16#32
  let v221 : BitVec 32 := Scalar.muli v2 c16_i32_164
  let v222 : BitVec 32 := Scalar.addi c0_i32_165 v221
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_7 : BitVec 32 := 1#32
  let v16 : BitVec 1 := Scalar.cmpi .eq v5 c1_i32_7
  let c2_i32_8 : BitVec 32 := 2#32
  let c1_i32_9 : BitVec 32 := 1#32
  let v17 : BitVec 32 := Scalar.select v16 c2_i32_8 c1_i32_9
  let c4_i32_166 : BitVec 32 := 4#32
  let v223 : BitVec 32 := Scalar.muli v17 c4_i32_166
  let v224 : BitVec 32 := Scalar.addi v222 v223
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_167 : BitVec 32 := 1#32
  let v225 : BitVec 32 := Scalar.muli v8 c1_i32_167
  let v226 : BitVec 32 := Scalar.addi v224 v225
  v226.toNat
def k0_dev27 (d0 : Dev nD) : Nat :=
  let c0_i32_188 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_187 : BitVec 32 := 16#32
  let v252 : BitVec 32 := Scalar.muli v2 c16_i32_187
  let v253 : BitVec 32 := Scalar.addi c0_i32_188 v252
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_7 : BitVec 32 := 1#32
  let v16 : BitVec 1 := Scalar.cmpi .eq v5 c1_i32_7
  let c2_i32_8 : BitVec 32 := 2#32
  let c1_i32_9 : BitVec 32 := 1#32
  let v17 : BitVec 32 := Scalar.select v16 c2_i32_8 c1_i32_9
  let c4_i32_189 : BitVec 32 := 4#32
  let v254 : BitVec 32 := Scalar.muli v17 c4_i32_189
  let v255 : BitVec 32 := Scalar.addi v253 v254
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_190 : BitVec 32 := 1#32
  let v256 : BitVec 32 := Scalar.muli v8 c1_i32_190
  let v257 : BitVec 32 := Scalar.addi v255 v256
  v257.toNat
def k0_dev28 (d0 : Dev nD) : Nat :=
  let c0_i32_211 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_210 : BitVec 32 := 16#32
  let v283 : BitVec 32 := Scalar.muli v2 c16_i32_210
  let v284 : BitVec 32 := Scalar.addi c0_i32_211 v283
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_7 : BitVec 32 := 1#32
  let v16 : BitVec 1 := Scalar.cmpi .eq v5 c1_i32_7
  let c2_i32_8 : BitVec 32 := 2#32
  let c1_i32_9 : BitVec 32 := 1#32
  let v17 : BitVec 32 := Scalar.select v16 c2_i32_8 c1_i32_9
  let c4_i32_212 : BitVec 32 := 4#32
  let v285 : BitVec 32 := Scalar.muli v17 c4_i32_212
  let v286 : BitVec 32 := Scalar.addi v284 v285
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_213 : BitVec 32 := 1#32
  let v287 : BitVec 32 := Scalar.muli v8 c1_i32_213
  let v288 : BitVec 32 := Scalar.addi v286 v287
  v288.toNat
def k0_dev29 (d0 : Dev nD) : Nat :=
  let c0_i32_237 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_236 : BitVec 32 := 16#32
  let v314 : BitVec 32 := Scalar.muli v2 c16_i32_236
  let v315 : BitVec 32 := Scalar.addi c0_i32_237 v314
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_10 : BitVec 32 := 1#32
  let v18 : BitVec 1 := Scalar.cmpi .eq v5 c1_i32_10
  let c0_i32 : BitVec 32 := 0#32
  let c3_i32 : BitVec 32 := 3#32
  let v19 : BitVec 32 := Scalar.select v18 c0_i32 c3_i32
  let c4_i32_238 : BitVec 32 := 4#32
  let v316 : BitVec 32 := Scalar.muli v19 c4_i32_238
  let v317 : BitVec 32 := Scalar.addi v315 v316
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_239 : BitVec 32 := 1#32
  let v318 : BitVec 32 := Scalar.muli v8 c1_i32_239
  let v319 : BitVec 32 := Scalar.addi v317 v318
  v319.toNat
def k0_dev30 (d0 : Dev nD) : Nat :=
  let c0_i32_247 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_246 : BitVec 32 := 16#32
  let v326 : BitVec 32 := Scalar.muli v2 c16_i32_246
  let v327 : BitVec 32 := Scalar.addi c0_i32_247 v326
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_248 : BitVec 32 := 4#32
  let v328 : BitVec 32 := Scalar.muli v5 c4_i32_248
  let v329 : BitVec 32 := Scalar.addi v327 v328
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3 : BitVec 32 := 1#32
  let v10 : BitVec 32 := Scalar.addi v8 c1_i32_3
  let c2_i32_4 : BitVec 32 := 2#32
  let c2_i32_2 : BitVec 32 := 2#32
  let v9 : BitVec 32 := Scalar.remsi v8 c2_i32_2
  let v11 : BitVec 32 := Scalar.muli c2_i32_4 v9
  let v12 : BitVec 32 := Scalar.subi v10 v11
  let c1_i32_249 : BitVec 32 := 1#32
  let v330 : BitVec 32 := Scalar.muli v12 c1_i32_249
  let v331 : BitVec 32 := Scalar.addi v329 v330
  v331.toNat
def k0_off4 (d0 : Dev nD) (c0_i32_254 : BitVec 32) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let v9 : BitVec 32 := Scalar.remsi v8 c2_i32_2
  let c1024_i32 : BitVec 32 := 1024#32
  let v34 : BitVec 32 := Scalar.muli v9 c1024_i32
  let v338 : BitVec 32 := Scalar.addi v34 c0_i32_254
  let v339 : Index := Scalar.indexCast v338
  let c0_255 : Index := 0#32
  ![v339.toNat, 0]
def k0_dev31 (d0 : Dev nD) : Nat :=
  let c0_i32_275 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_274 : BitVec 32 := 16#32
  let v360 : BitVec 32 := Scalar.muli v2 c16_i32_274
  let v361 : BitVec 32 := Scalar.addi c0_i32_275 v360
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_10 : BitVec 32 := 1#32
  let v18 : BitVec 1 := Scalar.cmpi .eq v5 c1_i32_10
  let c0_i32 : BitVec 32 := 0#32
  let c3_i32 : BitVec 32 := 3#32
  let v19 : BitVec 32 := Scalar.select v18 c0_i32 c3_i32
  let c4_i32_276 : BitVec 32 := 4#32
  let v362 : BitVec 32 := Scalar.muli v19 c4_i32_276
  let v363 : BitVec 32 := Scalar.addi v361 v362
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_277 : BitVec 32 := 1#32
  let v364 : BitVec 32 := Scalar.muli v8 c1_i32_277
  let v365 : BitVec 32 := Scalar.addi v363 v364
  v365.toNat
def k0_dev32 (d0 : Dev nD) : Nat :=
  let c0_i32_285 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_284 : BitVec 32 := 16#32
  let v372 : BitVec 32 := Scalar.muli v2 c16_i32_284
  let v373 : BitVec 32 := Scalar.addi c0_i32_285 v372
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_286 : BitVec 32 := 4#32
  let v374 : BitVec 32 := Scalar.muli v5 c4_i32_286
  let v375 : BitVec 32 := Scalar.addi v373 v374
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3 : BitVec 32 := 1#32
  let v10 : BitVec 32 := Scalar.addi v8 c1_i32_3
  let c2_i32_4 : BitVec 32 := 2#32
  let c2_i32_2 : BitVec 32 := 2#32
  let v9 : BitVec 32 := Scalar.remsi v8 c2_i32_2
  let v11 : BitVec 32 := Scalar.muli c2_i32_4 v9
  let v12 : BitVec 32 := Scalar.subi v10 v11
  let c1_i32_287 : BitVec 32 := 1#32
  let v376 : BitVec 32 := Scalar.muli v12 c1_i32_287
  let v377 : BitVec 32 := Scalar.addi v375 v376
  v377.toNat
def k0_dev33 (d0 : Dev nD) : Nat :=
  let c0_i32_313 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_312 : BitVec 32 := 16#32
  let v406 : BitVec 32 := Scalar.muli v2 c16_i32_312
  let v407 : BitVec 32 := Scalar.addi c0_i32_313 v406
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_10 : BitVec 32 := 1#32
  let v18 : BitVec 1 := Scalar.cmpi .eq v5 c1_i32_10
  let c0_i32 : BitVec 32 := 0#32
  let c3_i32 : BitVec 32 := 3#32
  let v19 : BitVec 32 := Scalar.select v18 c0_i32 c3_i32
  let c4_i32_314 : BitVec 32 := 4#32
  let v408 : BitVec 32 := Scalar.muli v19 c4_i32_314
  let v409 : BitVec 32 := Scalar.addi v407 v408
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_315 : BitVec 32 := 1#32
  let v410 : BitVec 32 := Scalar.muli v8 c1_i32_315
  let v411 : BitVec 32 := Scalar.addi v409 v410
  v411.toNat
def k0_dev34 (d0 : Dev nD) : Nat :=
  let c0_i32_323 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_322 : BitVec 32 := 16#32
  let v418 : BitVec 32 := Scalar.muli v2 c16_i32_322
  let v419 : BitVec 32 := Scalar.addi c0_i32_323 v418
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_324 : BitVec 32 := 4#32
  let v420 : BitVec 32 := Scalar.muli v5 c4_i32_324
  let v421 : BitVec 32 := Scalar.addi v419 v420
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3 : BitVec 32 := 1#32
  let v10 : BitVec 32 := Scalar.addi v8 c1_i32_3
  let c2_i32_4 : BitVec 32 := 2#32
  let c2_i32_2 : BitVec 32 := 2#32
  let v9 : BitVec 32 := Scalar.remsi v8 c2_i32_2
  let v11 : BitVec 32 := Scalar.muli c2_i32_4 v9
  let v12 : BitVec 32 := Scalar.subi v10 v11
  let c1_i32_325 : BitVec 32 := 1#32
  let v422 : BitVec 32 := Scalar.muli v12 c1_i32_325
  let v423 : BitVec 32 := Scalar.addi v421 v422
  v423.toNat
def k0_dev35 (d0 : Dev nD) : Nat :=
  let c0_i32_351 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_350 : BitVec 32 := 16#32
  let v452 : BitVec 32 := Scalar.muli v2 c16_i32_350
  let v453 : BitVec 32 := Scalar.addi c0_i32_351 v452
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_10 : BitVec 32 := 1#32
  let v18 : BitVec 1 := Scalar.cmpi .eq v5 c1_i32_10
  let c0_i32 : BitVec 32 := 0#32
  let c3_i32 : BitVec 32 := 3#32
  let v19 : BitVec 32 := Scalar.select v18 c0_i32 c3_i32
  let c4_i32_352 : BitVec 32 := 4#32
  let v454 : BitVec 32 := Scalar.muli v19 c4_i32_352
  let v455 : BitVec 32 := Scalar.addi v453 v454
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_353 : BitVec 32 := 1#32
  let v456 : BitVec 32 := Scalar.muli v8 c1_i32_353
  let v457 : BitVec 32 := Scalar.addi v455 v456
  v457.toNat
def k0_dev36 (d0 : Dev nD) : Nat :=
  let c0_i32_361 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_360 : BitVec 32 := 16#32
  let v464 : BitVec 32 := Scalar.muli v2 c16_i32_360
  let v465 : BitVec 32 := Scalar.addi c0_i32_361 v464
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_362 : BitVec 32 := 4#32
  let v466 : BitVec 32 := Scalar.muli v5 c4_i32_362
  let v467 : BitVec 32 := Scalar.addi v465 v466
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3 : BitVec 32 := 1#32
  let v10 : BitVec 32 := Scalar.addi v8 c1_i32_3
  let c2_i32_4 : BitVec 32 := 2#32
  let c2_i32_2 : BitVec 32 := 2#32
  let v9 : BitVec 32 := Scalar.remsi v8 c2_i32_2
  let v11 : BitVec 32 := Scalar.muli c2_i32_4 v9
  let v12 : BitVec 32 := Scalar.subi v10 v11
  let c1_i32_363 : BitVec 32 := 1#32
  let v468 : BitVec 32 := Scalar.muli v12 c1_i32_363
  let v469 : BitVec 32 := Scalar.addi v467 v468
  v469.toNat
def k0_dev37 (d0 : Dev nD) : Nat :=
  let c0_i32_389 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_388 : BitVec 32 := 16#32
  let v498 : BitVec 32 := Scalar.muli v2 c16_i32_388
  let v499 : BitVec 32 := Scalar.addi c0_i32_389 v498
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_10 : BitVec 32 := 1#32
  let v18 : BitVec 1 := Scalar.cmpi .eq v5 c1_i32_10
  let c0_i32 : BitVec 32 := 0#32
  let c3_i32 : BitVec 32 := 3#32
  let v19 : BitVec 32 := Scalar.select v18 c0_i32 c3_i32
  let c4_i32_390 : BitVec 32 := 4#32
  let v500 : BitVec 32 := Scalar.muli v19 c4_i32_390
  let v501 : BitVec 32 := Scalar.addi v499 v500
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_391 : BitVec 32 := 1#32
  let v502 : BitVec 32 := Scalar.muli v8 c1_i32_391
  let v503 : BitVec 32 := Scalar.addi v501 v502
  v503.toNat
def k0_dev38 (d0 : Dev nD) : Nat :=
  let c0_i32_399 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_398 : BitVec 32 := 16#32
  let v510 : BitVec 32 := Scalar.muli v2 c16_i32_398
  let v511 : BitVec 32 := Scalar.addi c0_i32_399 v510
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_400 : BitVec 32 := 4#32
  let v512 : BitVec 32 := Scalar.muli v5 c4_i32_400
  let v513 : BitVec 32 := Scalar.addi v511 v512
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3 : BitVec 32 := 1#32
  let v10 : BitVec 32 := Scalar.addi v8 c1_i32_3
  let c2_i32_4 : BitVec 32 := 2#32
  let c2_i32_2 : BitVec 32 := 2#32
  let v9 : BitVec 32 := Scalar.remsi v8 c2_i32_2
  let v11 : BitVec 32 := Scalar.muli c2_i32_4 v9
  let v12 : BitVec 32 := Scalar.subi v10 v11
  let c1_i32_401 : BitVec 32 := 1#32
  let v514 : BitVec 32 := Scalar.muli v12 c1_i32_401
  let v515 : BitVec 32 := Scalar.addi v513 v514
  v515.toNat
def k0_dev39 (d0 : Dev nD) : Nat :=
  let c0_i32_427 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_426 : BitVec 32 := 16#32
  let v544 : BitVec 32 := Scalar.muli v2 c16_i32_426
  let v545 : BitVec 32 := Scalar.addi c0_i32_427 v544
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_10 : BitVec 32 := 1#32
  let v18 : BitVec 1 := Scalar.cmpi .eq v5 c1_i32_10
  let c0_i32 : BitVec 32 := 0#32
  let c3_i32 : BitVec 32 := 3#32
  let v19 : BitVec 32 := Scalar.select v18 c0_i32 c3_i32
  let c4_i32_428 : BitVec 32 := 4#32
  let v546 : BitVec 32 := Scalar.muli v19 c4_i32_428
  let v547 : BitVec 32 := Scalar.addi v545 v546
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_429 : BitVec 32 := 1#32
  let v548 : BitVec 32 := Scalar.muli v8 c1_i32_429
  let v549 : BitVec 32 := Scalar.addi v547 v548
  v549.toNat
def k0_dev40 (d0 : Dev nD) : Nat :=
  let c0_i32_437 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_436 : BitVec 32 := 16#32
  let v556 : BitVec 32 := Scalar.muli v2 c16_i32_436
  let v557 : BitVec 32 := Scalar.addi c0_i32_437 v556
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_438 : BitVec 32 := 4#32
  let v558 : BitVec 32 := Scalar.muli v5 c4_i32_438
  let v559 : BitVec 32 := Scalar.addi v557 v558
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3 : BitVec 32 := 1#32
  let v10 : BitVec 32 := Scalar.addi v8 c1_i32_3
  let c2_i32_4 : BitVec 32 := 2#32
  let c2_i32_2 : BitVec 32 := 2#32
  let v9 : BitVec 32 := Scalar.remsi v8 c2_i32_2
  let v11 : BitVec 32 := Scalar.muli c2_i32_4 v9
  let v12 : BitVec 32 := Scalar.subi v10 v11
  let c1_i32_439 : BitVec 32 := 1#32
  let v560 : BitVec 32 := Scalar.muli v12 c1_i32_439
  let v561 : BitVec 32 := Scalar.addi v559 v560
  v561.toNat
def k0_dev41 (d0 : Dev nD) : Nat :=
  let c0_i32_465 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_464 : BitVec 32 := 16#32
  let v590 : BitVec 32 := Scalar.muli v2 c16_i32_464
  let v591 : BitVec 32 := Scalar.addi c0_i32_465 v590
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_10 : BitVec 32 := 1#32
  let v18 : BitVec 1 := Scalar.cmpi .eq v5 c1_i32_10
  let c0_i32 : BitVec 32 := 0#32
  let c3_i32 : BitVec 32 := 3#32
  let v19 : BitVec 32 := Scalar.select v18 c0_i32 c3_i32
  let c4_i32_466 : BitVec 32 := 4#32
  let v592 : BitVec 32 := Scalar.muli v19 c4_i32_466
  let v593 : BitVec 32 := Scalar.addi v591 v592
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_467 : BitVec 32 := 1#32
  let v594 : BitVec 32 := Scalar.muli v8 c1_i32_467
  let v595 : BitVec 32 := Scalar.addi v593 v594
  v595.toNat
def k0_dev42 (d0 : Dev nD) : Nat :=
  let c0_i32_475 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_474 : BitVec 32 := 16#32
  let v602 : BitVec 32 := Scalar.muli v2 c16_i32_474
  let v603 : BitVec 32 := Scalar.addi c0_i32_475 v602
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_476 : BitVec 32 := 4#32
  let v604 : BitVec 32 := Scalar.muli v5 c4_i32_476
  let v605 : BitVec 32 := Scalar.addi v603 v604
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3 : BitVec 32 := 1#32
  let v10 : BitVec 32 := Scalar.addi v8 c1_i32_3
  let c2_i32_4 : BitVec 32 := 2#32
  let c2_i32_2 : BitVec 32 := 2#32
  let v9 : BitVec 32 := Scalar.remsi v8 c2_i32_2
  let v11 : BitVec 32 := Scalar.muli c2_i32_4 v9
  let v12 : BitVec 32 := Scalar.subi v10 v11
  let c1_i32_477 : BitVec 32 := 1#32
  let v606 : BitVec 32 := Scalar.muli v12 c1_i32_477
  let v607 : BitVec 32 := Scalar.addi v605 v606
  v607.toNat
def k0_dev43 (d0 : Dev nD) : Nat :=
  let c0_i32_503 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_502 : BitVec 32 := 16#32
  let v636 : BitVec 32 := Scalar.muli v2 c16_i32_502
  let v637 : BitVec 32 := Scalar.addi c0_i32_503 v636
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_10 : BitVec 32 := 1#32
  let v18 : BitVec 1 := Scalar.cmpi .eq v5 c1_i32_10
  let c0_i32 : BitVec 32 := 0#32
  let c3_i32 : BitVec 32 := 3#32
  let v19 : BitVec 32 := Scalar.select v18 c0_i32 c3_i32
  let c4_i32_504 : BitVec 32 := 4#32
  let v638 : BitVec 32 := Scalar.muli v19 c4_i32_504
  let v639 : BitVec 32 := Scalar.addi v637 v638
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_505 : BitVec 32 := 1#32
  let v640 : BitVec 32 := Scalar.muli v8 c1_i32_505
  let v641 : BitVec 32 := Scalar.addi v639 v640
  v641.toNat
def k0_dev44 (d0 : Dev nD) : Nat :=
  let c0_i32_513 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_512 : BitVec 32 := 16#32
  let v648 : BitVec 32 := Scalar.muli v2 c16_i32_512
  let v649 : BitVec 32 := Scalar.addi c0_i32_513 v648
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_514 : BitVec 32 := 4#32
  let v650 : BitVec 32 := Scalar.muli v5 c4_i32_514
  let v651 : BitVec 32 := Scalar.addi v649 v650
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3 : BitVec 32 := 1#32
  let v10 : BitVec 32 := Scalar.addi v8 c1_i32_3
  let c2_i32_4 : BitVec 32 := 2#32
  let c2_i32_2 : BitVec 32 := 2#32
  let v9 : BitVec 32 := Scalar.remsi v8 c2_i32_2
  let v11 : BitVec 32 := Scalar.muli c2_i32_4 v9
  let v12 : BitVec 32 := Scalar.subi v10 v11
  let c1_i32_515 : BitVec 32 := 1#32
  let v652 : BitVec 32 := Scalar.muli v12 c1_i32_515
  let v653 : BitVec 32 := Scalar.addi v651 v652
  v653.toNat
def k0_off5 (d0 : Dev nD) (c0_i32_534 : BitVec 32) : Fin 2 → Nat :=
  let c1024_i32_21 : BitVec 32 := 1024#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let v9 : BitVec 32 := Scalar.remsi v8 c2_i32_2
  let c1024_i32 : BitVec 32 := 1024#32
  let v34 : BitVec 32 := Scalar.muli v9 c1024_i32
  let v35 : BitVec 32 := Scalar.subi c1024_i32_21 v34
  let v675 : BitVec 32 := Scalar.addi v35 c0_i32_534
  let v676 : Index := Scalar.indexCast v675
  let c0_535 : Index := 0#32
  ![v676.toNat, 0]
abbrev stage0_0 : Fin 1 → Memref sig .tc .vmem S2048x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S8192x512 : Shape := ⟨2, ![8192, 512]⟩
abbrev S4x2048x512 : Shape := ⟨3, ![4, 2048, 512]⟩
abbrev S_ : Shape := ⟨0, ![]⟩
abbrev S2048x512 : Shape := ⟨2, ![2048, 512]⟩

abbrev nBuf : Space → Nat
  | .hbm => 7
  | .vmem => 0
  | .smem => 0
  | _ => 0

abbrev bufTy : (tb : Table) → Fin (tcTables nBuf tb) → BufTy
  | .hbm, ⟨0, _⟩ => ⟨S8192x512, .bf16⟩
  | .hbm, ⟨1, _⟩ => ⟨S4x2048x512, .bf16⟩
  | .hbm, ⟨2, _⟩ => ⟨S4x2048x512, .f32⟩
  | .hbm, ⟨3, _⟩ => ⟨S_, .f32⟩
  | .hbm, ⟨4, _⟩ => ⟨S2048x512, .f32⟩
  | .hbm, ⟨5, _⟩ => ⟨S2048x512, .bf16⟩
  | .hbm, ⟨6, _⟩ => ⟨S2048x512, .f32⟩
  | _, _ => ⟨S8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Proof.Program.lean ====
/-
The kernel's body written as loops.

The printed body of the all-reduce is one long straight line: every loop over the eight chunks of 128 rows is
unrolled. This module names the buffers, the chunks and the semaphores, writes each step once at a chunk `k`, writes the
two branches of the body (the devices that reduce and the devices that only lend their rows) as loops over the chunks,
and states that the printed body is that program. The equality holds by unfolding both sides.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Rounds
public import Idealize.ShloMosaic.Lib.Tactic

@[expose] public section

noncomputable section

namespace Cert.AllReduce

open Cert.KernelIdeal Cert.KernelIdeal.Gen
open Idealize.ShloMosaic
open Idealize.ShloMosaic.TcCoe
open Idealize.SL.Sem

variable {F : FTy → Type} [FloatOps F]

/-! ## Buffers, chunks, semaphores -/

/-- A scratch buffer of 1024 rows. -/
abbrev SBuf : Type := Memref sig .tc .vmem S1024x512 .bf16

/-- The device's block of `x`. -/
abbrev xM : Memref sig .tc .vmem S2048x512 .bf16 := Memref.whole cc0_stg0_0
/-- The device's result. -/
abbrev oM : Memref sig .tc .vmem S2048x512 .f32 := Memref.whole cc0_stg1_0
/-- The half of `x` the device works on. -/
abbrev hM : SBuf := Memref.whole cc0_scratch0
/-- What the first exchange brings. -/
abbrev r1M : SBuf := Memref.whole cc0_scratch1
/-- The sum of two halves. -/
abbrev pM : SBuf := Memref.whole cc0_scratch2
/-- What the second exchange brings. -/
abbrev r2M : SBuf := Memref.whole cc0_scratch3
/-- The total of the device's half. -/
abbrev tM : SBuf := Memref.whole cc0_scratch4
/-- The total of the other half, brought by the last exchange. -/
abbrev zM : SBuf := Memref.whole cc0_scratch5

abbrev s1s : DmaSems sig S8 := cc0_scratch6
abbrev r1s : DmaSems sig S8 := cc0_scratch7
abbrev s2s : DmaSems sig S8 := cc0_scratch8
abbrev r2s : DmaSems sig S8 := cc0_scratch9
abbrev s3s : DmaSems sig S8 := cc0_scratch10
abbrev r3s : DmaSems sig S8 := cc0_scratch11
abbrev szs : DmaSems sig S8 := cc0_scratch12
abbrev rzs : DmaSems sig S8 := cc0_scratch13

/-- Rows `128k … 128k + 127` lie in a buffer of 1024 rows. -/
theorem inbC (k : Fin 8) : ∀ a, (![128 * k.val, 0] : Fin 2 → Nat) a + S128x512.size a ≤ S1024x512.size a := by
  fin_cases k
  exacts [inb_S1024x512_S128x512_0_0, inb_S1024x512_S128x512_128_0, inb_S1024x512_S128x512_256_0, inb_S1024x512_S128x512_384_0,
    inb_S1024x512_S128x512_512_0, inb_S1024x512_S128x512_640_0, inb_S1024x512_S128x512_768_0, inb_S1024x512_S128x512_896_0]

/-- Semaphore `k` is one of the eight of its array. -/
theorem inbS (k : Fin 8) : ∀ a, (![k.val] : Fin 1 → Nat) a + S1.size a ≤ S8.size a := by
  fin_cases k
  exacts [inb_S8_S1_0, inb_S8_S1_1, inb_S8_S1_2, inb_S8_S1_3, inb_S8_S1_4, inb_S8_S1_5, inb_S8_S1_6, inb_S8_S1_7]

/-- Chunk `k` of a scratch buffer: rows `128k … 128k + 127`. -/
abbrev crect (k : Fin 8) : Rect S1024x512 := Rect.unit (s := S1024x512) ![128 * k.val, 0] S128x512.size (inbC k)

theorem crect_words (k : Fin 8) : (crect k).WholeWords (EltTy.packing .bf16) := by
  fin_cases k
  exacts [wordsbf16_S1024x512_S128x512_0_0, wordsbf16_S1024x512_S128x512_128_0, wordsbf16_S1024x512_S128x512_256_0,
    wordsbf16_S1024x512_S128x512_384_0, wordsbf16_S1024x512_S128x512_512_0, wordsbf16_S1024x512_S128x512_640_0,
    wordsbf16_S1024x512_S128x512_768_0, wordsbf16_S1024x512_S128x512_896_0]

theorem crect_packed (k : Fin 8) : (crect k).PackedRows (EltTy.packing .bf16) := by
  fin_cases k
  exacts [packedbf16_S1024x512_S128x512_0_0, packedbf16_S1024x512_S128x512_128_0, packedbf16_S1024x512_S128x512_256_0,
    packedbf16_S1024x512_S128x512_384_0, packedbf16_S1024x512_S128x512_512_0, packedbf16_S1024x512_S128x512_640_0,
    packedbf16_S1024x512_S128x512_768_0, packedbf16_S1024x512_S128x512_896_0]

abbrev chunk (M : SBuf) (k : Fin 8) : Memref sig .tc .vmem S128x512 .bf16 := M.slice (crect k) (fun _ => rfl)

abbrev sem8 (A : DmaSems sig S8) (k : Fin 8) : DmaSem sig :=
  ((A.slice (Rect.unit (s := S8) ![k.val] S1.size (inbS k))).squeeze S_ squeezes_S1_S_).sem

/-- The runtime's barrier semaphore. -/
abbrev barS : Sem sig := (SemArray.scalar (sig.barrier 0 rfl) : Sems sig S_).sem

/-! ## The steps, at chunk `k` -/

abbrev PR (F : FTy → Type) [FloatOps F] (α : Type) : Type 1 := Prog (TpuEff nD τ sig (Elt F) Λ₀ .tc) α

/-- Start copying chunk `k` of `src` into chunk `k` of `dst` on device `d`. -/
def sendC (d : Dev nD) (src : SBuf) (hs : src.IsWhole) (dst : SBuf) (hd : dst.IsWhole) (hr : dst.view.ref.isScScratch = false)
    (ss rs : DmaSems sig S8) (k : Fin 8) : PR F PUnit :=
  Prog.lift (.enqueueDma (chunk src k) (.remote (Dev.tc d) (chunk dst k) (.dma (sem8 ss k)) hr) (.dma (sem8 rs k))
    (hs.wordExact_slice rfl _ (crect_words k)) (hd.wordExact_slice rfl _ (crect_words k)) ⟨⟨rfl, Or.inl rfl⟩, trivial⟩)

/-- Wait for chunk `k` on semaphore `k` of `A`; `M` is the buffer whose chunk sizes the wait. -/
def waitC (A : DmaSems sig S8) (M : SBuf) (hM : M.IsWhole) (k : Fin 8) : PR F PUnit :=
  Prog.lift (.waitDma2 (sem8 A k) (chunk M k) (chunk M k) (hM.wordExact_slice rfl _ (crect_words k)) (hM.wordExact_slice rfl _ (crect_words k)))

/-- Read chunk `k`. -/
def loadC (M : SBuf) (k : Fin 8) : PR F (Vec F S128x512 .bf16) :=
  Prog.lift (.load M (crect k).toLoadRect (View.loadsAt_vmem h_S128x512))

/-- Write chunk `k`. -/
def storeC (M : SBuf) (hM : M.IsWhole) (k : Fin 8) (w : Vec F S128x512 .bf16) : PR F PUnit :=
  Prog.lift (.store M (crect k) w Finset.univ
    (View.stores_vmem h_S128x512 (hM.storeExact_slice rfl _ (crect_packed k)) (fun _ => rfl)) (.inl rfl))

/-- Write 128 rows of the result, which are read first. -/
def writeO (off : Fin 2 → Nat) (h : ∀ a, off a + S128x512.size a ≤ S2048x512.size a) (w : Vec F S128x512 .f32) : PR F PUnit := do
  let _v : Vec F S128x512 .f32 ← Prog.lift (.load oM (Rect.unit (s := S2048x512) off S128x512.size h).toLoadRect (View.loadsAt_vmem h_S128x512))
  Prog.lift (.store oM (Rect.unit (s := S2048x512) off S128x512.size h) w Finset.univ (View.stores_vmem_bits_univ h_S128x512 rfl) (.inl rfl))

/-- One step for each chunk of the list, in order. -/
def forK (ks : List (Fin 8)) (f : Fin 8 → PR F PUnit) : PR F PUnit :=
  match ks with
  | [] => .ret ⟨⟩
  | k :: ks => (f k).bind fun _ => forK ks f

/-- The eight chunks. -/
abbrev allK : List (Fin 8) := [0, 1, 2, 3, 4, 5, 6, 7]

/-- The word of the row a chunk starts at. -/
abbrev rowW (k : Fin 8) : BitVec 32 := BitVec.ofNat 32 (128 * k.val)

/-! ## What the values are -/

/-- A chunk widened. -/
def widen (v : Vec F S128x512 .bf16) : Vec F S128x512 .f32 := extf .f32 v bitsLt_bf16_f32
/-- The sum of two chunks at the wide type. -/
def sumW (a b : Vec F S128x512 .bf16) : Vec F S128x512 .f32 := addf (widen a) (widen b)
/-- The sum of two chunks, rounded back. -/
def sumN (a b : Vec F S128x512 .bf16) : Vec F S128x512 .bf16 :=
  shapeCast S128x512 (truncf .bf16 (sumW a b) bitsLt_bf16_f32) shapeCasts_S128x512_S128x512

/-! ## The two branches -/

/-- The branch of a device that lends its half to its partner along `y` and gets the total back. -/
def outer (c : Dev nD) (h : k0_cond3 c = 1#1) : PR F PUnit := do
  forK allK fun k => sendC ⟨k0_dev5 c, k0_dev5_lt c h⟩ hM (Memref.isWhole_whole _) r1M (Memref.isWhole_whole _) rfl s1s r1s k
  forK allK fun k => do
    waitC r3s tM (Memref.isWhole_whole _) k
    sendC ⟨k0_dev13 c, k0_dev13_lt c h⟩ tM (Memref.isWhole_whole _) zM (Memref.isWhole_whole _) rfl szs rzs k
    let v ← loadC tM k
    writeO (k0_off2 c (rowW k)) (k0_off2_inb c h k) (widen v)
  forK allK fun k => do
    waitC rzs zM (Memref.isWhole_whole _) k
    let v ← loadC zM k
    writeO (k0_off3 c (rowW k)) (k0_off3_inb c h k) (widen v)
  forK allK fun k => waitC s1s hM (Memref.isWhole_whole _) k
  forK allK fun k => waitC szs tM (Memref.isWhole_whole _) k

/-- The branch of a device that adds: its own half and its partner's, then that sum and the one of the other adding
    device of the column; the total goes back to the partner and across `z`. -/
def inner (c : Dev nD) (h : k0_cond4 c = 1#1) : PR F PUnit := do
  forK allK fun k => do
    waitC r1s r1M (Memref.isWhole_whole _) k
    let a ← loadC hM k
    let b ← loadC r1M k
    let _p : Vec F S128x512 .bf16 ← loadC pM k
    storeC pM (Memref.isWhole_whole _) k (sumN a b)
    sendC ⟨k0_dev21 c, k0_dev21_lt c h⟩ pM (Memref.isWhole_whole _) r2M (Memref.isWhole_whole _) rfl s2s r2s k
  forK allK fun k => do
    waitC r2s r2M (Memref.isWhole_whole _) k
    let a ← loadC pM k
    let b ← loadC r2M k
    let _p : Vec F S128x512 .bf16 ← loadC tM k
    storeC tM (Memref.isWhole_whole _) k (sumN a b)
    sendC ⟨k0_dev29 c, k0_dev29_lt c h⟩ tM (Memref.isWhole_whole _) tM (Memref.isWhole_whole _) rfl s3s r3s k
    sendC ⟨k0_dev30 c, k0_dev30_lt c h⟩ tM (Memref.isWhole_whole _) zM (Memref.isWhole_whole _) rfl szs rzs k
    writeO (k0_off4 c (rowW k)) (k0_off4_inb c h k) (sumW a b)
  forK allK fun k => do
    waitC rzs zM (Memref.isWhole_whole _) k
    let v ← loadC zM k
    writeO (k0_off5 c (rowW k)) (k0_off5_inb c h k) (widen v)
  forK allK fun k => waitC s2s pM (Memref.isWhole_whole _) k
  forK allK fun k => waitC s3s tM (Memref.isWhole_whole _) k
  forK allK fun k => waitC szs tM (Memref.isWhole_whole _) k

/-! ## The body -/

/-- The whole body: every device tells its partners that it has started and waits until they have (the printed
    first part and the condition after it), takes its half of `x`, and goes into its branch. -/
def bodyP : PR F PUnit := do
  let ⟨c, _v2, _v5, _v8, _v9, _v12, _v15, _v17, _v19, _v21, _v22⟩ : Σ' (d0 : Dev nD) (v2 : BitVec 32) (v5 : BitVec 32) (v8 : BitVec 32) (v9 : BitVec 32) (v12 : BitVec 32) (v15 : BitVec 1) (v17 : BitVec 32) (v19 : BitVec 32) (v21 : BitVec 32), Sems sig S_ ←
    k0_part47 xM (Memref.isWhole_whole _) oM (Memref.isWhole_whole _) hM (Memref.isWhole_whole _) r1M (Memref.isWhole_whole _)
      pM (Memref.isWhole_whole _) r2M (Memref.isWhole_whole _) tM (Memref.isWhole_whole _) zM (Memref.isWhole_whole _)
      s1s r1s s2s r2s s3s r3s szs rzs
  if h2 : k0_cond2 c = 1#1 then do
    semSignalWord (⟨k0_dev4 c, k0_dev4_lt c h2⟩ : Dev nD) _v22.sem 1#32
    semWaitWord _v22.sem 2#32
    pure ⟨⟩
  else do
    pure ⟨⟩
  let v : Vec F S1024x512 .bf16 ← Prog.lift (.load xM (Rect.unit (s := S2048x512) (k0_off1 c) S1024x512.size (k0_off1_inb c)).toLoadRect (View.loadsAt_vmem h_S1024x512))
  let _w : Vec F S1024x512 .bf16 ← Prog.lift (.load hM (Rect.unit (s := S1024x512) ![0, 0] S1024x512.size inb_S1024x512_S1024x512_0_0).toLoadRect (View.loadsAt_vmem h_S1024x512))
  Prog.lift (.store hM (Rect.unit (s := S1024x512) ![0, 0] S1024x512.size inb_S1024x512_S1024x512_0_0) (k0_pay1 v) Finset.univ (View.stores_vmem h_S1024x512 ((Memref.isWhole_whole cc0_scratch0).storeExact_slice rfl _ packedbf16_S1024x512_S1024x512_0_0) (fun _ => rfl)) (.inl rfl))
  if h3 : k0_cond3 c = 1#1 then outer c h3 else pure ⟨⟩
  if h4 : k0_cond4 c = 1#1 then inner c h4 else pure ⟨⟩
  pure ⟨⟩

set_option maxRecDepth 65536 in
/-- The printed body, at the kernel's own buffers and semaphores, is the program above. -/
theorem body_eq :
    cc0_body (F := F) xM (Memref.isWhole_whole _) oM (Memref.isWhole_whole _) hM (Memref.isWhole_whole _) r1M (Memref.isWhole_whole _)
      pM (Memref.isWhole_whole _) r2M (Memref.isWhole_whole _) tM (Memref.isWhole_whole _) zM (Memref.isWhole_whole _)
      s1s r1s s2s r2s s3s r3s szs rzs = bodyP := by
  chain_rfl

end Cert.AllReduce
-- ==== Proof.Devices.lean ====
/-
The devices, who talks to whom, and the semaphore cells.

The 32 devices stand on a mesh 2 × 4 × 4; device `c` has coordinates `x = c / 16`, `y = c / 4 % 4`, `z = c % 4`. Three
involutions of the devices say who exchanges with whom: `zc` (neighbour across `z`), `yp` (neighbour across `y`: rows 0
and 1, rows 2 and 3) and `ip` (across `y`, `y ↦ 3 - y`; the adding devices of a column exchange with it). A device
adds when its `y` is 1 or 2 (`isIn`). The printed device chains and conditions are these.
-/
module

public import proofs.«01_k».proof.Proof.Program

@[expose] public section

noncomputable section

namespace Cert.AllReduce

open Cert.KernelIdeal Cert.KernelIdeal.Gen
open Idealize.ShloMosaic
open Idealize.ShloMosaic.TcCoe

/-! ## Devices -/

set_option backward.proofsInPublic true in
/-- The neighbour across `z`: `z` 0 and 1, 2 and 3. -/
def zc (c : Dev nD) : Dev nD := ⟨2 * (c.val / 2) + (c.val + 1) % 2, by revert c; decide +kernel⟩
set_option backward.proofsInPublic true in
/-- The neighbour across `y`: `y` 0 and 1, 2 and 3. -/
def yp (c : Dev nD) : Dev nD := ⟨8 * (c.val / 8) + (c.val + 4) % 8, by revert c; decide +kernel⟩
set_option backward.proofsInPublic true in
/-- The device at `3 - y`. -/
def ip (c : Dev nD) : Dev nD := ⟨16 * (c.val / 16) + 4 * (3 - c.val / 4 % 4) + c.val % 4, by revert c; decide +kernel⟩

/-- The device adds: its `y` is 1 or 2. -/
def isIn (c : Dev nD) : Bool := c.val / 4 % 4 == 1 || c.val / 4 % 4 == 2

theorem zc_zc (c : Dev nD) : zc (zc c) = c := by revert c; decide +kernel
theorem yp_yp (c : Dev nD) : yp (yp c) = c := by revert c; decide +kernel
theorem ip_ip (c : Dev nD) : ip (ip c) = c := by revert c; decide +kernel
theorem isIn_zc (c : Dev nD) : isIn (zc c) = isIn c := by revert c; decide +kernel
theorem isIn_yp (c : Dev nD) : isIn (yp c) = !isIn c := by revert c; decide +kernel
theorem isIn_ip (c : Dev nD) : isIn (ip c) = isIn c := by revert c; decide +kernel

theorem cond1_iff (c : Dev nD) : k0_cond1 c = 1#1 ↔ isIn c = true := by revert c; decide +kernel
theorem cond2_iff (c : Dev nD) : k0_cond2 c = 1#1 ↔ isIn c = false := by revert c; decide +kernel
theorem cond3_iff (c : Dev nD) : k0_cond3 c = 1#1 ↔ isIn c = false := by revert c; decide +kernel
theorem cond4_iff (c : Dev nD) : k0_cond4 c = 1#1 ↔ isIn c = true := by revert c; decide +kernel

theorem dev1_val : ∀ c : Dev nD, k0_dev1 c = (zc c).val := by decide +kernel
theorem dev2_val : ∀ c : Dev nD, isIn c = true → k0_dev2 c = (yp c).val := by decide +kernel
theorem dev3_val : ∀ c : Dev nD, isIn c = true → k0_dev3 c = (ip c).val := by decide +kernel
theorem dev4_val : ∀ c : Dev nD, isIn c = false → k0_dev4 c = (yp c).val := by decide +kernel
theorem dev5_val : ∀ c : Dev nD, isIn c = false → k0_dev5 c = (yp c).val := by decide +kernel
theorem dev13_val : ∀ c : Dev nD, isIn c = false → k0_dev13 c = (zc c).val := by decide +kernel
theorem dev21_val : ∀ c : Dev nD, isIn c = true → k0_dev21 c = (ip c).val := by decide +kernel
theorem dev29_val : ∀ c : Dev nD, isIn c = true → k0_dev29 c = (yp c).val := by decide +kernel
theorem dev30_val : ∀ c : Dev nD, isIn c = true → k0_dev30 c = (zc c).val := by decide +kernel

theorem dev1_eq (c : Dev nD) : (⟨k0_dev1 c, k0_dev1_lt c⟩ : Dev nD) = zc c := Fin.ext (dev1_val c)
theorem dev2_eq (c : Dev nD) (h : k0_cond1 c = 1#1) : (⟨k0_dev2 c, k0_dev2_lt c h⟩ : Dev nD) = yp c := Fin.ext (dev2_val c ((cond1_iff c).mp h))
theorem dev3_eq (c : Dev nD) (h : k0_cond1 c = 1#1) : (⟨k0_dev3 c, k0_dev3_lt c h⟩ : Dev nD) = ip c := Fin.ext (dev3_val c ((cond1_iff c).mp h))
theorem dev4_eq (c : Dev nD) (h : k0_cond2 c = 1#1) : (⟨k0_dev4 c, k0_dev4_lt c h⟩ : Dev nD) = yp c := Fin.ext (dev4_val c ((cond2_iff c).mp h))
theorem dev5_eq (c : Dev nD) (h : k0_cond3 c = 1#1) : (⟨k0_dev5 c, k0_dev5_lt c h⟩ : Dev nD) = yp c := Fin.ext (dev5_val c ((cond3_iff c).mp h))
theorem dev13_eq (c : Dev nD) (h : k0_cond3 c = 1#1) : (⟨k0_dev13 c, k0_dev13_lt c h⟩ : Dev nD) = zc c := Fin.ext (dev13_val c ((cond3_iff c).mp h))
theorem dev21_eq (c : Dev nD) (h : k0_cond4 c = 1#1) : (⟨k0_dev21 c, k0_dev21_lt c h⟩ : Dev nD) = ip c := Fin.ext (dev21_val c ((cond4_iff c).mp h))
theorem dev29_eq (c : Dev nD) (h : k0_cond4 c = 1#1) : (⟨k0_dev29 c, k0_dev29_lt c h⟩ : Dev nD) = yp c := Fin.ext (dev29_val c ((cond4_iff c).mp h))
theorem dev30_eq (c : Dev nD) (h : k0_cond4 c = 1#1) : (⟨k0_dev30 c, k0_dev30_lt c h⟩ : Dev nD) = zc c := Fin.ext (dev30_val c ((cond4_iff c).mp h))

/-- An involution of the devices as a permutation of them. -/
def inv (f : Dev nD → Dev nD) (h : ∀ c, f (f c) = c) : Dev nD ≃ Dev nD := ⟨f, f, h, h⟩

/-! ## Semaphore cells -/

/-- The kernel's eight arrays of semaphores: sending and receiving, of the first, second, third and `z` exchange. -/
def arr : Fin 8 → DmaSems sig S8 := ![s1s, r1s, s2s, r2s, s3s, r3s, szs, rzs]

/-- The semaphores the protocol uses: the barrier (`none`), semaphore `k` of array `a`. -/
abbrev J : Type := Option (Fin 8 × Fin 8)

/-- The kernel's own semaphores. -/
abbrev osem (p : Fin 8 × Fin 8) : SemLoc sig := .dma (sem8 (arr p.1) p.2)
/-- All the protocol's semaphores. -/
abbrev csem : J → SemLoc sig
  | none => .reg barS
  | some p => osem p
/-- A device's cell. -/
abbrev kcell (c : Dev nD) (j : J) : GSem nD τ sig := ((c : Thread nD τ), csem j)

/-- Which of the protocol's semaphores a semaphore is. -/
def dec (s : DmaSem sig) : Option (Fin 8 × Fin 8) :=
  if 2 ≤ s.val then some (⟨(s.val - 2) / 8 % 8, Nat.mod_lt _ (by decide)⟩, ⟨(s.val - 2) % 8, Nat.mod_lt _ (by decide)⟩) else none

theorem dec_osem : ∀ p : Fin 8 × Fin 8, dec (sem8 (arr p.1) p.2) = some p := by decide +kernel

theorem osem_injective : Function.Injective (fun p : Fin 8 × Fin 8 => sem8 (arr p.1) p.2) := fun p q h =>
  Option.some.inj ((dec_osem p).symm.trans ((congrArg dec h).trans (dec_osem q)))

theorem csem_injective : Function.Injective csem := by
  intro a b h
  rcases a with _ | p <;> rcases b with _ | q
  · rfl
  · cases h
  · cases h
  · exact congrArg some (osem_injective (SemLoc.dma.inj h))

theorem kcell_inj {c c' : Dev nD} {j j' : J} (h : kcell c j = kcell c' j') : c = c' ∧ j = j' :=
  ⟨congrArg (fun g : GSem nD τ sig => g.1.1) h, csem_injective (congrArg Prod.snd h)⟩

/-- The bytes one chunk puts on its semaphores. -/
abbrev N : ℕ := (chunk hM 0).view.dmaCredit
theorem N_pos : 0 < N := View.dmaCredit_pos _ (by decide)

end Cert.AllReduce
-- ==== Proof.Schedule.lean ====
/-
What every chunk holds, and what every semaphore hands over.

Contents are stated chunk by chunk from the blocks `x` of all devices. The schedule has one round. A device's barrier
cell is raised by the devices that will receive from it: each hands over the buffer it will be sent chunks into. A
receiving cell is raised by the copy that lands, and hands over the chunk it wrote; a sending cell hands back the share
of the chunk that was lent to the copy.
-/
module

public import proofs.«01_k».proof.Proof.Devices

@[expose] public section

noncomputable section

namespace Cert.AllReduce

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra -/

abbrev UX : Type := URounds (GSem nD τ sig) (Fin 3)
abbrev UU : Type := UR sig nD τ × UX

local notation "𝕄" => MT nD τ sig Unit (Elt F) ℕ UU ℕ

abbrev EP : Emb (UR sig nD τ) (MT nD τ sig Unit (Elt F) ℕ UU ℕ) := embL
abbrev ER : Emb UX (MT nD τ sig Unit (Elt F) ℕ UU ℕ) := embR

/-! ## Contents -/

/-- The values of a chunk. -/
abbrev CV (F : FTy → Type) [FloatOps F] : Type := Vec F S128x512 .bf16

/-- Every device's block of `x`. -/
abbrev Blocks (F : FTy → Type) [FloatOps F] : Type := Dev nD → (cc0_stg0_0 : Ref sig .tc).ty.Contents (Elt F)

/-- The rows of `x` a device works on. -/
abbrev hrect (c : Dev nD) : Rect S2048x512 := Rect.unit (s := S2048x512) (k0_off1 c) S1024x512.size (k0_off1_inb c)

variable (x : Blocks F)

/-- The half of `x` device `c` works on. -/
def halfOf (c : Dev nD) : Vec F S1024x512 .bf16 := k0_pay1 (xM.view.readAt (Elt F) (hrect c).toLoadRect (x c))
/-- Chunk `k` of it. -/
def Hc (c : Dev nD) (k : Fin 8) : CV F := fun i => halfOf x c ((crect k).emb i)
/-- Chunk `k` of the sum of a device's half and its `y` partner's. -/
def Pc (c : Dev nD) (k : Fin 8) : CV F := sumN (Hc x c k) (Hc x (yp c) k)
/-- Chunk `k` of the total, at the wide type. -/
def Wc (c : Dev nD) (k : Fin 8) : Vec F S128x512 .f32 := sumW (Pc x c k) (Pc x (ip c) k)
/-- Chunk `k` of the total. -/
def Tc (c : Dev nD) (k : Fin 8) : CV F := sumN (Pc x c k) (Pc x (ip c) k)
/-- Chunk `k` of a device's buffer of totals at the end: its own if it adds, its partner's otherwise. -/
def tt (c : Dev nD) (k : Fin 8) : CV F := if isIn c then Tc x c k else Tc x (yp c) k

/-! ## What the cells hand over -/

/-- Device `c` owns chunk `k` of `M` at share `q`, holding `X`. -/
def own (c : Dev nD) (M : SBuf) (k : Fin 8) (q : PosShare TreeShare) (X : CV F) : sProp 𝕄 :=
  owns (c : Thread nD τ) (chunk M k) q X

/-- Device `c` owns chunk `k` of `M`, holding anything. -/
def anyC (c : Dev nD) (M : SBuf) (k : Fin 8) : sProp 𝕄 := iprop(∃ X : CV F, own c M k fullShare X)

instance own_storable (c : Dev nD) (M : SBuf) (k : Fin 8) (q) (X : CV F) : BI.Storable (upEmb : UEmb _ 𝕄) (own c M k q X) := by
  unfold own; infer_instance

instance anyC_storable (c : Dev nD) (M : SBuf) (k : Fin 8) : BI.Storable (upEmb : UEmb _ 𝕄) (anyC (F := F) c M k) := by
  unfold anyC; infer_instance

/-- Device `c` owns all of `M`, chunk by chunk, holding anything. -/
def anyB (c : Dev nD) (M : SBuf) : sProp 𝕄 := bigSep Finset.univ fun k : Fin 8 => anyC (F := F) c M k

instance anyB_storable (c : Dev nD) (M : SBuf) : BI.Storable (upEmb : UEmb _ 𝕄) (anyB (F := F) c M) := by
  unfold anyB; infer_instance

/-- Which arrays of semaphores a device uses. -/
def act (c : Dev nD) : Fin 8 → Bool := ![!isIn c, isIn c, isIn c, isIn c, isIn c, !isIn c, true, true]

/-- What the cell of semaphore `k` of array `a` on device `c` hands over. -/
def payX (c : Dev nD) (a k : Fin 8) : sProp 𝕄 :=
  match a with
  | 0 => own c hM k fullShare (Hc x c k)
  | 1 => own c r1M k fullShare (Hc x (yp c) k)
  | 2 => own c pM k fullShare.right (Pc x c k)
  | 3 => own c r2M k fullShare (Pc x (ip c) k)
  | 4 => own c tM k fullShare.left (tt x c k)
  | 5 => own c tM k fullShare (tt x c k)
  | 6 => own c tM k fullShare.right (tt x c k)
  | 7 => own c zM k fullShare (tt x (zc c) k)

instance payX_storable (c : Dev nD) (a k : Fin 8) : BI.Storable (upEmb : UEmb _ 𝕄) (payX x c a k) := by
  unfold payX; split <;> infer_instance

/-- What device `c`'s barrier cell hands over: from its `z` neighbour, the buffer for the other half's total; from its `y`
    partner, the buffer device `c` sends to it; from the other adding device, the buffer of the second exchange. -/
def payB (c : Dev nD) : Fin 3 → sProp 𝕄
  | 0 => anyB (F := F) (zc c) zM
  | 1 => if isIn c then anyB (F := F) (yp c) tM else anyB (F := F) (yp c) r1M
  | 2 => anyB (F := F) (ip c) r2M

instance payB_storable (c : Dev nD) (d : Fin 3) : BI.Storable (upEmb : UEmb _ 𝕄) (payB (F := F) c d) := by
  unfold payB; split <;> (repeat' split) <;> infer_instance

/-- The duties of a device's semaphore: three raises of an adding device's barrier, two of another's; one copy for
    each other semaphore in use. -/
def dutyOf (c : Dev nD) : SemLoc sig → Finset (Fin 3)
  | .reg s => if s = barS then (if isIn c then Finset.univ else {0, 1}) else ∅
  | .dma s => match dec s with
    | some p => if act c p.1 then {0} else ∅
    | none => ∅

def payOf (c : Dev nD) (d : Fin 3) : SemLoc sig → sProp 𝕄
  | .reg s => payB (F := F) c d
  | .dma s => match dec s with
    | some p => payX x c p.1 p.2
    | none => iprop(emp)

instance payOf_storable (c : Dev nD) (d : Fin 3) (s : SemLoc sig) : BI.Storable (upEmb : UEmb _ 𝕄) (payOf x c d s) := by
  unfold payOf; split
  · infer_instance
  · split <;> infer_instance

def amtOf : SemLoc sig → ℕ
  | .reg _ => 1
  | .dma _ => N

/-- The schedule: one round. -/
def rd : Rounds.Schedule (GSem nD τ sig) (Fin 3) 𝕄 where
  duties g r := if r = 0 ∧ g.1.2 = .tc then dutyOf g.1.1 g.2 else ∅
  unitless _ := False
  amount g _ _ := amtOf g.2
  payload g _ d := payOf x g.1.1 d g.2
  amount_pos g _ _ _ := by
    show 0 < amtOf g.2
    rcases g.2 with s | s
    · exact Nat.one_pos
    · exact N_pos

instance rd_payload_storable (g : GSem nD τ sig) (r : ℕ) (d : Fin 3) : BI.Storable (upEmb : UEmb _ 𝕄) ((rd x).payload g r d) := by
  show BI.Storable upEmb (payOf x g.1.1 d g.2)
  infer_instance

section Tables
variable (c : Dev nD)

theorem duties_zero (j : J) : (rd x).duties (kcell c j) 0 = dutyOf c (csem j) := by
  dsimp only [rd]; exact if_pos ⟨rfl, rfl⟩

theorem duties_bar : (rd x).duties (kcell c none) 0 = if isIn c then Finset.univ else {0, 1} := by
  rw [duties_zero]; dsimp only [dutyOf]; exact if_pos rfl

theorem duties_x (a k : Fin 8) : (rd x).duties (kcell c (some (a, k))) 0 = if act c a then {0} else ∅ := by
  rw [duties_zero]
  dsimp only [dutyOf, csem]
  rw [dec_osem (a, k)]

theorem duties_act {a : Fin 8} (h : act c a = true) (k : Fin 8) : (rd x).duties (kcell c (some (a, k))) 0 = {0} := by
  rw [duties_x, if_pos h]

theorem duties_idle {a : Fin 8} (h : act c a = false) (k : Fin 8) (r : ℕ) : (rd x).duties (kcell c (some (a, k))) r = ∅ := by
  rcases r with _ | r
  · rw [duties_x, h]; rfl
  · dsimp only [rd]; exact if_neg fun h => Nat.succ_ne_zero r h.1

theorem duties_later (g : GSem nD τ sig) (r : ℕ) (hr : 0 + 1 ≤ r) : (rd x).duties g r = ∅ := by
  dsimp only [rd]; exact if_neg fun h => by omega

theorem payload_x (a k : Fin 8) (d : Fin 3) : (rd x).payload (kcell c (some (a, k))) 0 d = payX x c a k := by
  show (match dec (sem8 (arr a) k) with | some p => payX x c p.1 p.2 | none => iprop(emp)) = _
  rw [dec_osem (a, k)]

theorem payload_bar (d : Fin 3) : (rd x).payload (kcell c none) 0 d = payB (F := F) c d := rfl

theorem amount_x (a k : Fin 8) (d : Fin 3) : (rd x).amount (kcell c (some (a, k))) 0 d = N := rfl
theorem amount_bar (d : Fin 3) : (rd x).amount (kcell c none) 0 d = 1 := rfl

theorem expect_x {a : Fin 8} (h : act c a = true) (k : Fin 8) : (rd x).expect (kcell c (some (a, k))) 0 = N := by
  unfold Schedule.expect Schedule.amountOf
  rw [duties_act x c h, Finset.sum_singleton, amount_x]

theorem expect_bar : (rd x).expect (kcell c none) 0 = if isIn c then 3 else 2 := by
  unfold Schedule.expect Schedule.amountOf
  rw [duties_bar, Finset.sum_congr rfl fun d _ => amount_bar x c d]
  cases isIn c <;> rfl

theorem rest_x {a : Fin 8} (h : act c a = true) (k : Fin 8) :
    bigSep ((rd x).duties (kcell c (some (a, k))) 0 \ ∅) (fun d => (rd x).payload (kcell c (some (a, k))) 0 d) = payX x c a k := by
  rw [Finset.sdiff_empty, duties_act x c h, bigSep_singleton, payload_x]

/-- What the barrier's wait hands an adding device. -/
theorem rest_barIn (h : isIn c = true) :
    bigSep ((rd x).duties (kcell c none) 0 \ ∅) (fun d => (rd x).payload (kcell c none) 0 d)
      = iprop(anyB (F := F) (zc c) zM ∗ anyB (F := F) (yp c) tM ∗ anyB (F := F) (ip c) r2M) := by
  rw [Finset.sdiff_empty, duties_bar, if_pos h, bigSep_univ_eq_bigSepL [0, 1, 2] (by decide) (by decide), bigSepL_cons_cons, bigSepL_cons_cons,
    bigSepL_singleton, payload_bar, payload_bar, payload_bar]
  show iprop(_ ∗ (if isIn c then _ else _) ∗ _) = _
  rw [if_pos h]; rfl

/-- What the barrier's wait hands another device. -/
theorem rest_barOut (h : isIn c = false) :
    bigSep ((rd x).duties (kcell c none) 0 \ ∅) (fun d => (rd x).payload (kcell c none) 0 d)
      = iprop(anyB (F := F) (zc c) zM ∗ anyB (F := F) (yp c) r1M) := by
  rw [Finset.sdiff_empty, duties_bar, if_neg (by rw [h]; exact Bool.false_ne_true),
    bigSep_eq_bigSepL_of_eq [0, 1] (by decide) (by decide), bigSepL_cons_cons, bigSepL_singleton, payload_bar, payload_bar]
  show iprop(_ ∗ (if isIn c then _ else _)) = _
  rw [if_neg (by rw [h]; exact Bool.false_ne_true)]; rfl

end Tables

/-! ## What a device owes at launch, and the order of the waits -/

/-- The sum of `f` over a list of chunks, the first one last. -/
def tl (f : Fin 8 → CellTallies nD τ sig Unit) : List (Fin 8) → CellTallies nD τ sig Unit
  | [] => 0
  | k :: ks => tl f ks + f k

/-- What a copy into semaphore `k` of array `a` on device `d` owes. -/
abbrev due (d : Dev nD) (a k : Fin 8) : CellTallies nD τ sig Unit := tallyAt (kcell d (some (a, k))) () N
/-- What a raise of device `d`'s barrier owes. -/
abbrev dueB (d : Dev nD) : CellTallies nD τ sig Unit := tallyAt (kcell d none) () 1

/-- What a device that does not add owes after its raises, -/
def O1out (c : Dev nD) : CellTallies nD τ sig Unit := tl (fun k => due (zc c) 7 k) allK + tl (fun k => due (yp c) 1 k) allK
/-- and an adding one. -/
def O1in (c : Dev nD) : CellTallies nD τ sig Unit :=
  tl (fun k => due (zc c) 7 k + due (yp c) 5 k) allK + tl (fun k => due (ip c) 3 k) allK

/-- What a device owes at launch. -/
def O₀ (c : Dev nD) : CellTallies nD τ sig Unit :=
  if isIn c then O1in c + dueB (ip c) + dueB (yp c) + dueB (zc c) else O1out c + dueB (yp c) + dueB (zc c)

/-- The cells of the devices' main cores are the ones with a level, -/
def L (g : GSem nD τ sig) : Finset Unit := if g.1.2 = .tc then {()} else ∅

/-- the levels of the receiving cells in the order of the exchanges, the others at 0; -/
def lvA : Fin 8 → ℕ := ![0, 2, 0, 3, 0, 4, 0, 5]
def lvS : SemLoc sig → ℕ
  | .reg _ => 1
  | .dma s => match dec s with
    | some p => lvA p.1
    | none => 0
/-- the barrier's at 1. -/
def lv (g : GSem nD τ sig) (_ : Unit) : ℕ := lvS g.2

theorem L_of_ne (g : GSem nD τ sig) (h : g.1.2 ≠ .tc) : L g = ∅ := if_neg h
theorem L_tc (c : Dev nD) (sm : SemLoc sig) : L ((c : Thread nD τ), sm) = {()} := if_pos rfl
theorem lvS_x (a k : Fin 8) : lvS (osem (a, k)) = lvA a := by
  dsimp only [lvS, osem]
  rw [dec_osem (a, k)]
theorem lv_x (c : Dev nD) (a k : Fin 8) (u : Unit) : lv (kcell c (some (a, k))) u = lvA a := lvS_x a k

/-- Everything owed in `O` is on cells above level `n`. -/
def Above (n : ℕ) (O : CellTallies nD τ sig Unit) : Prop := ∀ g u, 0 < O g u → g.1.2 = .tc ∧ n < lv g u

theorem above_zero (n : ℕ) : Above n 0 := fun g u h => absurd h (Nat.lt_irrefl 0)
theorem above_add {n : ℕ} {O D : CellTallies nD τ sig Unit} (h : Above n O) (h' : Above n D) : Above n (O + D) := fun g u hp =>
  (Pipeline.add_pos_cases hp).elim (h g u) (h' g u)
theorem above_tally {n : ℕ} {g : GSem nD τ sig} {m : ℕ} (ht : g.1.2 = .tc) (h : n < lv g ()) : Above n (tallyAt g () m) := fun g' u hp => by
  obtain ⟨rfl, rfl⟩ := Pipeline.tallyAt_pos hp
  exact ⟨ht, h⟩
theorem above_due {n : ℕ} (d : Dev nD) (a k : Fin 8) (h : n < lvA a) : Above n (due d a k) := above_tally rfl (by rw [lv_x]; exact h)
theorem above_dueB {n : ℕ} (d : Dev nD) (h : n < 1) : Above n (dueB d) := above_tally rfl h
theorem above_tl {n : ℕ} {f : Fin 8 → CellTallies nD τ sig Unit} (h : ∀ k, Above n (f k)) : ∀ ks, Above n (tl f ks)
  | [] => above_zero n
  | k :: ks => above_add (above_tl h ks) (h k)

variable (F) in
omit [FloatOps F] in
/-- The levels, as every device knows them. -/
def lvls : sProp 𝕄 := levAts L lv

instance lvls_persistent : BI.Persistent (lvls F) := by unfold lvls; infer_instance

omit [FloatOps F] in
/-- A wait on a cell at most at level `n` is admitted while everything owed is above `n`. -/
theorem mayWait_of_above {n : ℕ} (c : Dev nD) (s : SemLoc sig) (hs : lvS s ≤ n) {O : CellTallies nD τ sig Unit} (h : Above n O) :
    lvls F ⊢ MayWait (c : Thread nD τ) s () O :=
  Pipeline.mayWait_of_levAts (by rw [L_tc]; exact Finset.mem_singleton_self _)
    fun g i hp => ⟨by
      rw [show L g = {()} from if_pos (h g i hp).1]; exact Finset.mem_singleton.mpr rfl, lt_of_le_of_lt hs (h g i hp).2⟩

theorem above_O1out (c : Dev nD) : Above 1 (O1out c) :=
  above_add (above_tl (fun k => above_due _ _ _ (by decide)) _) (above_tl (fun k => above_due _ _ _ (by decide)) _)
theorem above_O1in (c : Dev nD) : Above 1 (O1in c) :=
  above_add (above_tl (fun k => above_add (above_due _ _ _ (by decide)) (above_due _ _ _ (by decide))) _)
    (above_tl (fun k => above_due _ _ _ (by decide)) _)
theorem above_mono {n n' : ℕ} (hn : n ≤ n') {O : CellTallies nD τ sig Unit} (h : Above n' O) : Above n O := fun g u hp =>
  ⟨(h g u hp).1, lt_of_le_of_lt hn (h g u hp).2⟩
theorem above_O₀ (c : Dev nD) : Above 0 (O₀ c) := by
  unfold O₀; split
  · exact above_add (above_add (above_add (above_mono (by decide) (above_O1in c)) (above_dueB _ (by decide))) (above_dueB _ (by decide)))
      (above_dueB _ (by decide))
  · exact above_add (above_add (above_mono (by decide) (above_O1out c)) (above_dueB _ (by decide))) (above_dueB _ (by decide))

end Cert.AllReduce
-- ==== Proof.Steps.lean ====
/-
One rule for each kind of step a device takes, in terms of chunks, and the rule of a loop over the chunks.

Every rule is stated for any device, array of semaphores, buffer and chunk at once, and says what a step needs and what it
gives back.
-/
module

public import proofs.«01_k».proof.Proof.Schedule

@[expose] public section

noncomputable section

namespace Cert.AllReduce

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

/-- Device `c` runs `p` to a state in `Q`. -/
abbrev WP {α : Type} (c : Dev nD) (p : PR F α) (Q : α → sProp 𝕄) : sProp 𝕄 :=
  wp frame (wpE (defs₀ (F := F)) 𝒱₀ (c : Thread nD τ) none) Set.univ p Q

theorem wp_seq {α β : Type} (c : Dev nD) (p : PR F α) (k : α → PR F β) (Q : β → sProp 𝕄) :
    WP c (p >>= k) Q = WP c p (fun a => WP c (k a) Q) := wp_bind _ _ _ p k Q

/-- Device `c` owes `O`. -/
def ow (c : Dev nD) (O : CellTallies nD τ sig Unit) : sProp 𝕄 := iprop(∃ W, owes (c : Thread nD τ) O W)

/-- The token with which device `c`'s cell `j` is raised. -/
abbrev tok (c : Dev nD) (j : J) (d : Fin 3) : sProp 𝕄 := dutyTok (ER (F := F)) (kcell c j) 0 d
/-- The credit of one chunk on semaphore `k` of array `a`. -/
abbrev crd (c : Dev nD) (a k : Fin 8) : sProp 𝕄 := cred (due c a k)
/-- Device `c` has made its waits on semaphore `k` of array `a` up to round `r`. -/
abbrev posn (c : Dev nD) (a k : Fin 8) (r : ℕ) : sProp 𝕄 := atPos (ER (F := F)) (kcell c (some (a, k))) r ∅ 0

variable (x : Blocks F) (K : Dev nD × J → ℕ)

/-! ## What every device knows -/

/-- Every cell's invariant, that every cell has reached its round, and the levels. -/
def known : sProp 𝕄 :=
  iprop((bigSep Finset.univ fun cj : Dev nD × J => cellInv ER (rd x) (K cj) (kcell cj.1 cj.2))
    ∗ (bigSep Finset.univ fun cj : Dev nD × J => reached ER (kcell cj.1 cj.2) 0) ∗ lvls F)

instance known_persistent : BI.Persistent (known x K) := by unfold known; infer_instance

theorem known_inv (c : Dev nD) (j : J) : known x K ⊢ cellInv ER (rd x) (K (c, j)) (kcell c j) := by
  unfold known
  iintro ⟨H, -, -⟩
  iapply (show (bigSep Finset.univ fun cj : Dev nD × J => cellInv ER (rd x) (K cj) (kcell cj.1 cj.2) : sProp 𝕄) ⊢ _ from bigSep_elim (Finset.mem_univ (c, j)))
  iexact H

theorem known_reached (c : Dev nD) (j : J) : known x K ⊢ reached ER (kcell c j) 0 := by
  unfold known
  iintro ⟨-, H, -⟩
  iapply (show (bigSep Finset.univ fun cj : Dev nD × J => reached ER (kcell cj.1 cj.2) 0 : sProp 𝕄) ⊢ _ from bigSep_elim (Finset.mem_univ (c, j)))
  iexact H

/-- A wait is admitted while everything owed is above its level. -/
theorem known_mayWait (c : Dev nD) (s : SemLoc sig) {n : ℕ} (hs : lvS s ≤ n) {O : CellTallies nD τ sig Unit} (hO : Above n O) :
    known x K ⊢ MayWait (c : Thread nD τ) s () O :=
  by
  unfold known
  iintro ⟨-, -, H⟩
  iapply (mayWait_of_above (F := F) c s hs hO); iexact H

/-! ## The steps -/

set_option maxHeartbeats 800000 in
/-- Starting a copy: the chunk is lent, the chunk it goes into is given up, and what was owed to the receiver is paid. -/
theorem wp_sendC (c d d' : Dev nD) (hd : d' = d) {src dst : SBuf} {hs : src.IsWhole} {hdst : dst.IsWhole}
    {hr : dst.view.ref.isScScratch = false} (a b k : Fin 8) (q : PosShare TreeShare) (X : CV F)
    (ha : act c a = true) (hb : act d b = true) (hpa : payX x c a k = own c src k q X) (hpb : payX x d b k = own d dst k fullShare X)
    (O : CellTallies nD τ sig Unit) (Q : PUnit → sProp 𝕄) :
    iprop(known x K ∗ own c src k q X ∗ anyC d dst k ∗ ow c (O + due d b k) ∗ tok c (some (a, k)) 0 ∗ tok d (some (b, k)) 0)
      ⊢ iprop(((crd c a k ∗ ow c O) -∗ Q ⟨⟩) -∗ WP c (sendC d' src hs dst hdst hr (arr a) (arr b) k) Q) := by
  subst hd
  unfold anyC own owns ow
  iintro ⟨#HR, ⟨%fs, %hfs, Hs⟩, ⟨%Y, %fd, -, Hd⟩, ⟨%W, HO⟩, Hta, Htb⟩ HQ
  unfold sendC Prog.lift
  iapply (Rounds.wp_send_pointsTo 𝒱₀ ER (rd x) (c : Thread nD τ) none (c' := (d' : Thread nD τ)) (src := chunk src k) (dst := chunk dst k)
    (sS := osem (a, k)) (sem := osem (b, k)) (κ₁ := K (c, some (a, k))) (κ₂ := K (d', some (b, k)))
    (r₁ := 0) (r₂ := 0) (d₁ := 0) (d₂ := 0) (fs := fs) (fd := fd)
    (by rw [duties_act x c ha]; exact Finset.mem_singleton_self _) (by rw [duties_act x d' hb]; exact Finset.mem_singleton_self _)
    () () N rfl (amount_x x c a k 0) (amount_x x d' b k 0) O rfl (W := W)
    (by rw [payload_x, hpa]; unfold own owns
        iintro H; iexists fs; isplitr; · (ipureintro; exact hfs)
        iexact H)
    (by rw [payload_x, hpb]; unfold own owns
        iintro H; iexists _; isplitr; rotate_left
        · iexact H
        · ipureintro; exact (View.read_write_univ _ _).trans hfs)) $$ [Hs Hd HO Hta Htb]
  · isplitr; · iapply (known_inv x K c (some (a, k))); iexact HR
    isplitr; · iapply (known_inv x K d' (some (b, k))); iexact HR
    isplitl [Hs]; · iexact Hs
    isplitl [Hd]; · iexact Hd
    isplitl [HO]; · iexact HO
    isplitl [Hta]; · iexact Hta
    isplitr; · iapply (known_reached x K c (some (a, k))); iexact HR
    isplitl [Htb]; · iexact Htb
    iapply (known_reached x K d' (some (b, k))); iexact HR
  iintro ⟨Hc, HO⟩
  rw [wp_ret]; imodintro
  iapply HQ
  isplitl [Hc]; · iexact Hc
  iexists W; iexact HO

/-- Waiting for a chunk: what its cell hands over. -/
theorem wp_waitC (c : Dev nD) {M : SBuf} {hM : M.IsWhole} (a k : Fin 8) (ha : act c a = true) (P : sProp 𝕄) (hP : payX x c a k = P) (O : CellTallies nD τ sig Unit)
    (hO : Above (lvA a) O) (Q : PUnit → sProp 𝕄) :
    iprop(known x K ∗ crd c a k ∗ ow c O ∗ posn c a k 0)
      ⊢ iprop(((ow c O ∗ posn c a k 1 ∗ P) -∗ Q ⟨⟩) -∗ WP c (waitC (arr a) M hM k) Q) := by
  subst hP
  unfold ow
  iintro ⟨#HR, Hc, ⟨%W, HO⟩, Hat⟩ HQ
  unfold waitC Prog.lift
  iapply (Rounds.wp_wait_rest_token 𝒱₀ ER (rd x) (c : Thread nD τ) none (κ := K (c, some (a, k)))
      (wpE_waitDma2_eq 𝒱₀ (c : Thread nD τ) none Set.univ) (Set.mem_univ _) () (O := O) (W := W) (R := 0) (m := 0) (T := ∅)
      (by rw [Nat.zero_add, expect_x x c ha])) $$ [Hc HO Hat]
  · isplitr; · iapply (known_inv x K c (some (a, k))); iexact HR
    isplitl [Hc]; · iexact Hc
    isplitl [HO]; · iexact HO
    isplitr
    · iapply (known_mayWait x K c (osem (a, k)) (le_of_eq (lvS_x a k)) hO); iexact HR
    iexact Hat
  iintro ⟨HO, Hat, -, Hpay⟩
  rw [wp_ret]; imodintro
  iapply HQ
  isplitl [HO]; · iexists _; iexact HO
  isplitl [Hat]; · iexact Hat
  ihave Hp := (Entails.of_eq (rest_x x c ha k)) $$ Hpay
  iexact Hp

/-- Raising another device's barrier. -/
theorem wp_raise (c d d' : Dev nD) (hd : d' = d) (e : Fin 3) (he : e ∈ (rd x).duties (kcell d none) 0)
    (O : CellTallies nD τ sig Unit) (Q : PUnit → sProp 𝕄) :
    iprop(known x K ∗ payB d e ∗ ow c (O + dueB d) ∗ tok d none e)
      ⊢ iprop((ow c O -∗ Q ⟨⟩) -∗ WP c (semSignalWord (Λ := Λ₀) (Val := Elt F) d' barS 1#32) Q) := by
  subst hd
  unfold ow
  iintro ⟨#HR, Hp, ⟨%W, HO⟩, Ht⟩ HQ
  unfold semSignalWord
  iapply (Rounds.wp_signal 𝒱₀ ER (rd x) (c : Thread nD τ) none (dst := (d' : Thread nD τ)) (κ := K (d', none))
      (d := e) he ((amount_bar x d' e).trans (by decide)) () O rfl) $$ [HO Hp Ht]
  · isplitr; · iapply (known_inv x K d' none); iexact HR
    isplitl [HO]; · iexact HO
    isplitl [Ht]; · iexact Ht
    isplitl [Hp]; · rw [payload_bar]; iexact Hp
    iapply (known_reached x K d' none); iexact HR
  iintro HO
  rw [wp_ret]; imodintro
  iapply HQ
  iexists W; iexact HO

/-- Waiting on a device's own barrier for all its raises. -/
theorem wp_barrier (c : Dev nD) (w : BitVec 32) (n : ℕ) (hw : w.toInt = (n : Int)) (hn : (rd x).expect (kcell c none) 0 = n) (O : CellTallies nD τ sig Unit)
    (hO : Above 1 O) (Q : PUnit → sProp 𝕄) :
    iprop(known x K ∗ cred (tallyAt (kcell c none) () n) ∗ ow c O ∗ atPos ER (kcell c none) 0 ∅ 0)
      ⊢ iprop(((ow c O ∗ atPos ER (kcell c none) 1 ∅ 0
            ∗ bigSep ((rd x).duties (kcell c none) 0 \ ∅) (fun d => (rd x).payload (kcell c none) 0 d)) -∗ Q ⟨⟩)
          -∗ WP c (semWaitWord (Λ := Λ₀) (Val := Elt F) barS w) Q) := by
  unfold ow
  iintro ⟨#HR, Hc, ⟨%W, HO⟩, Hat⟩ HQ
  unfold semWaitWord
  rw [hw]
  iapply (Rounds.wp_wait_rest_token 𝒱₀ ER (rd x) (c : Thread nD τ) none (κ := K (c, none))
      (wpE_semWait_eq 𝒱₀ (c : Thread nD τ) none Set.univ) (Set.mem_univ _) () (O := O) (W := W) (R := 0) (m := 0) (T := ∅)
      (by rw [Nat.zero_add, hn])) $$ [Hc HO Hat]
  · isplitr; · iapply (known_inv x K c none); iexact HR
    isplitl [Hc]; · iexact Hc
    isplitl [HO]; · iexact HO
    isplitr
    · iapply (known_mayWait x K c (SemLoc.reg barS) (n := 1) (le_refl 1) hO); iexact HR
    iexact Hat
  iintro ⟨HO, Hat, -, Hpay⟩
  rw [wp_ret]; imodintro
  iapply HQ
  isplitl [HO]; · iexists _; iexact HO
  isplitl [Hat]; · iexact Hat
  iexact Hpay

/-- Reading a chunk. -/
theorem wp_loadC (c : Dev nD) (M : SBuf) (k : Fin 8) (q : PosShare TreeShare) (X : CV F) (Q : CV F → sProp 𝕄) :
    own c M k q X ⊢ iprop((own c M k q X -∗ Q X) -∗ WP c (loadC M k) Q) := by
  unfold own owns
  iintro ⟨%f, %hf, H⟩ HQ
  unfold loadC Prog.lift
  iapply (wp_load_rect 𝒱₀ (c : Thread nD τ) none Set.univ (m := M) (r := crect k) (S := (chunk M k).view.set) (f := f) (q := q) (Finset.Subset.refl _)) $$ [H]
  · iexact H
  iintro H
  rw [show ((M.access (crect k)).read (Elt F) f : CV F) = X from hf, wp_ret]; imodintro
  iapply HQ
  iexists f; isplitr; · (ipureintro; exact hf)
  iexact H

/-- Writing a chunk. -/
theorem wp_storeC (c : Dev nD) (M : SBuf) (hM : M.IsWhole) (k : Fin 8) (X w : CV F) (Q : PUnit → sProp 𝕄) :
    own c M k fullShare X ⊢ iprop((own c M k fullShare w -∗ Q ⟨⟩) -∗ WP c (storeC M hM k w) Q) := by
  unfold own owns
  iintro ⟨%f, %hf, H⟩ HQ
  unfold storeC Prog.lift
  iapply (wp_store 𝒱₀ (c : Thread nD τ) none Set.univ (m := M) (r := crect k) (Mk := Finset.univ) (S := (chunk M k).view.set) (f := f) (Finset.Subset.refl _)) $$ [H]
  · iexact H
  iintro H
  rw [wp_ret]; imodintro
  iapply HQ
  iexists _; isplitr; rotate_left
  · iexact H
  · ipureintro; exact View.read_write_univ _ _

/-- Chunk `k` of half `h` of the result lies in it. -/
theorem inbO (h : Fin 2) (k : Fin 8) : ∀ a, (![1024 * h.val + 128 * k.val, 0] : Fin 2 → Nat) a + S128x512.size a ≤ S2048x512.size a := by
  revert h k; decide

/-- Rows `1024h + 128k …` of the result. -/
abbrev orect (h : Fin 2) (k : Fin 8) : Rect S2048x512 := Rect.unit (s := S2048x512) ![1024 * h.val + 128 * k.val, 0] S128x512.size (inbO h k)

/-- Device `c` owns chunk `k` of half `h` of its result, holding `X`. -/
def ownO (c : Dev nD) (h : Fin 2) (k : Fin 8) (X : Vec F S128x512 .f32) : sProp 𝕄 :=
  owns (c : Thread nD τ) (oM.slice (orect h k) (fun _ => rfl)) fullShare X

/-- The same, holding anything. -/
def anyO (c : Dev nD) (h : Fin 2) (k : Fin 8) : sProp 𝕄 := iprop(∃ X : Vec F S128x512 .f32, ownO c h k X)

/-- Writing 128 rows of the result. -/
theorem wp_writeO (c : Dev nD) (h : Fin 2) (k : Fin 8) (off : Fin 2 → Nat) (hoff : off = ![1024 * h.val + 128 * k.val, 0])
    (hin : ∀ a, off a + S128x512.size a ≤ S2048x512.size a) (w : Vec F S128x512 .f32) (Q : PUnit → sProp 𝕄) :
    anyO c h k ⊢ iprop((ownO c h k w -∗ Q ⟨⟩) -∗ WP c (writeO off hin w) Q) := by
  subst hoff
  unfold anyO ownO owns
  iintro ⟨%X, %f, %hf, H⟩ HQ
  unfold writeO Prog.lift
  iapply (wp_load_rect 𝒱₀ (c : Thread nD τ) none Set.univ (m := oM) (r := orect h k) (S := (oM.slice (orect h k) (fun _ => rfl)).view.set) (f := f) (q := fullShare) (Finset.Subset.refl _)) $$ [H]
  · iexact H
  iintro H
  iapply (wp_store 𝒱₀ (c : Thread nD τ) none Set.univ (m := oM) (r := orect h k) (Mk := Finset.univ) (S := (oM.slice (orect h k) (fun _ => rfl)).view.set) (f := f) (Finset.Subset.refl _)) $$ [H]
  · iexact H
  iintro H
  rw [wp_ret]; imodintro
  iapply HQ
  iexists _; isplitr; rotate_left
  · iexact H
  · ipureintro; exact View.read_write_univ _ _

/-! ## The loop -/

theorem bigSep_put {T : Type} [DecidableEq T] {t : T} {S : Finset T} (ht : t ∉ S) (A : T → sProp 𝕄) :
    bigSep (insert t S) A = iprop(A t ∗ bigSep S A) := bigSep_insert ht

/-- A loop over a list of different chunks: each step turns its chunk's `A` into its `B` and carries `I` on. -/
theorem wp_forK_list {R : sProp 𝕄} [BI.Persistent R] (c : Dev nD) (f : Fin 8 → PR F PUnit) (A B : Fin 8 → sProp 𝕄) (I : List (Fin 8) → sProp 𝕄)
    (h : ∀ k ks, iprop(R ∗ A k ∗ I (k :: ks)) ⊢ WP c (f k) fun _ => iprop(B k ∗ I ks)) (ks : List (Fin 8)) (hks : ks.Nodup) (Q : PUnit → sProp 𝕄) :
    iprop(R ∗ bigSep ks.toFinset A ∗ I ks) ⊢ iprop(((bigSep ks.toFinset B ∗ I []) -∗ Q ⟨⟩) -∗ WP c (forK ks f) Q) := by
  induction ks generalizing Q with
  | nil =>
    rw [List.toFinset_nil, bigSep_empty, bigSep_empty]
    iintro ⟨-, -, HI⟩ HQ
    unfold forK WP
    rw [wp_ret]; imodintro
    iapply HQ
    isplitr
    · iempintro
    iexact HI
  | cons k ks ih =>
    have hk : k ∉ ks.toFinset := fun hm => (List.nodup_cons.mp hks).1 (List.mem_toFinset.mp hm)
    rw [List.toFinset_cons, bigSep_put hk, bigSep_put hk, show forK (k :: ks) f = (f k >>= fun _ => forK ks f) from rfl, wp_seq]
    iintro ⟨#HR, ⟨HA, HAs⟩, HI⟩ HQ
    ihave Hk := (h k ks) $$ [HA HI]
    · isplitr; · iexact HR
      isplitl [HA] <;> iassumption
    iapply (show WP c (f k) (fun _ => iprop(B k ∗ I ks)) ⊢ iprop((∀ a, iprop(B k ∗ I ks) -∗ WP c (forK ks f) Q) -∗ WP c (f k) (fun _ => WP c (forK ks f) Q)) from wp_wand _ _ _) $$ Hk
    iintro %u ⟨HB, HI⟩
    iapply (ih (List.nodup_cons.mp hks).2 Q) $$ [HAs HI]
    · isplitr; · iexact HR
      isplitl [HAs] <;> iassumption
    iintro ⟨HBs, HI⟩
    iapply HQ
    isplitl [HB HBs]
    · isplitl [HB] <;> iassumption
    iexact HI

/-- The loop over all eight chunks. -/
theorem wp_forK {R : sProp 𝕄} [BI.Persistent R] (c : Dev nD) (f : Fin 8 → PR F PUnit) (A B : Fin 8 → sProp 𝕄) (I : List (Fin 8) → sProp 𝕄)
    (h : ∀ k ks, iprop(R ∗ A k ∗ I (k :: ks)) ⊢ WP c (f k) fun _ => iprop(B k ∗ I ks)) (Q : PUnit → sProp 𝕄) :
    iprop(R ∗ bigSep Finset.univ A ∗ I allK) ⊢ iprop(((bigSep Finset.univ B ∗ I []) -∗ Q ⟨⟩) -∗ WP c (forK allK f) Q) :=
  have e : (allK.toFinset : Finset (Fin 8)) = Finset.univ := by decide
  e ▸ wp_forK_list c f A B I h allK (by decide) Q

/-! ## Closing the cells -/

/-- The cells of an array of semaphores, all waits on them made, are the device's again, at zero. -/
theorem close_x (c : Dev nD) (a : Fin 8) (r : ℕ) (hr : r = 1 ∨ act c a = false) :
    iprop(known x K ∗ bigSep Finset.univ fun k : Fin 8 => posn (F := F) c a k r)
      ⊢ |={Set.univ}=> bigSep Finset.univ fun k : Fin 8 => (semVal (kcell c (some (a, k))) 0 : sProp 𝕄) := by
  refine (bigSep_with_persistent (R := known x K) (Ψ := fun k => iprop(|={Set.univ}=> (semVal (kcell c (some (a, k))) 0 : sProp 𝕄))) fun k _ => ?_).trans (bigSep_fupd _ _)
  iintro ⟨#HR, Hat⟩
  iapply (Rounds.cell_close ER (rd x) (Set.mem_univ (K (c, some (a, k)))) (fun h => h) (R := r)
    (fun r' h' => hr.elim (fun e => duties_later x _ r' (by omega)) (fun e => duties_idle x c e k r'))) $$ [Hat]
  isplitr; · iapply (known_inv x K c (some (a, k))); iexact HR
  iexact Hat

/-- The barrier's cell likewise. -/
theorem close_bar (c : Dev nD) :
    iprop(known x K ∗ atPos ER (kcell c none) 1 ∅ 0) ⊢ |={Set.univ}=> (semVal (kcell c none) 0 : sProp 𝕄) := by
  iintro ⟨#HR, Hat⟩
  iapply (Rounds.cell_close ER (rd x) (Set.mem_univ (K (c, none))) (fun h => h) (R := 1) (duties_later x _)) $$ [Hat]
  isplitr; · iapply (known_inv x K c none); iexact HR
  iexact Hat

end Cert.AllReduce
-- ==== Proof.Loops.lean ====
/-
The loops of the two branches, each as one rule over all eight chunks.
-/
module

public import proofs.«01_k».proof.Proof.Steps

@[expose] public section

noncomputable section

namespace Cert.AllReduce

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- `A` of every chunk. -/
abbrev all8 (A : Fin 8 → sProp 𝕄) : sProp 𝕄 := bigSep (Finset.univ : Finset (Fin 8)) A

/-! ## Shares -/

/-- A chunk owned outright is owned by halves, -/
theorem own_split (c : Dev nD) (M : SBuf) (k : Fin 8) (X : CV F) :
    own c M k fullShare X ⊢ iprop(own c M k fullShare.left X ∗ own c M k fullShare.right X) := by
  unfold own owns
  iintro ⟨%f, %hf, H⟩
  ihave H' := (pointsTo_share (PosShare.mem_left_op_right fullShare)).1 $$ H
  icases H' with ⟨H1, H2⟩
  isplitl [H1]
  · iexists f; isplitr; · (ipureintro; exact hf)
    iexact H1
  · iexists f; isplitr; · (ipureintro; exact hf)
    iexact H2

/-- What is owned is owned at some contents. -/
theorem own_any (c : Dev nD) (M : SBuf) (k : Fin 8) (X : CV F) : own c M k fullShare X ⊢ anyC c M k := by
  unfold anyC; iintro H; iexists X; iexact H

variable (x : Blocks F) (K : Dev nD × J → ℕ) (c : Dev nD)

/-! ## The total, at the two kinds of devices -/

theorem tt_in (h : isIn c = true) (k : Fin 8) : tt x c k = Tc x c k := if_pos h
theorem tt_yp (h : isIn c = true) (k : Fin 8) : tt x (yp c) k = tt x c k := by
  rw [tt_in x c h]
  unfold tt
  rw [isIn_yp, h, yp_yp]; rfl

/-- The half a device works on, and the other one. -/
def hf : Fin 2 := ⟨(c.val % 4) % 2, Nat.mod_lt _ (by decide)⟩
def ho : Fin 2 := ⟨1 - (c.val % 4) % 2, by omega⟩

theorem off2_at (k : Fin 8) : k0_off2 c (rowW k) = ![1024 * (hf c).val + 128 * k.val, 0] := k0_off2_eq c k
theorem off4_at (k : Fin 8) : k0_off4 c (rowW k) = ![1024 * (hf c).val + 128 * k.val, 0] := k0_off4_eq c k
theorem other_off (c : Dev nD) (k : Fin 8) : (![(128 * k.val + 1024) - 1024 * ((c.val % 4) % 2), 0] : Fin 2 → ℕ) = ![1024 * (ho c).val + 128 * k.val, 0] := by
  have : (128 * k.val + 1024) - 1024 * ((c.val % 4) % 2) = 1024 * (1 - (c.val % 4) % 2) + 128 * k.val := by omega
  rw [this]; rfl
theorem off3_at (k : Fin 8) : k0_off3 c (rowW k) = ![1024 * (ho c).val + 128 * k.val, 0] := (k0_off3_eq c k).trans (other_off c k)
theorem off5_at (k : Fin 8) : k0_off5 c (rowW k) = ![1024 * (ho c).val + 128 * k.val, 0] := (k0_off5_eq c k).trans (other_off c k)

/-! ## Loops both branches have -/

/-- Waiting for every chunk of an array of semaphores, owing nothing. -/
theorem waits_all (a : Fin 8) (ha : act c a = true) {M : SBuf} {hM : M.IsWhole} (Q : PUnit → sProp 𝕄) :
    iprop(known x K ∗ (all8 (crd c a) ∗ all8 fun k => posn c a k 0) ∗ ow c 0)
      ⊢ iprop((((all8 fun k => posn c a k 1) ∗ all8 (payX x c a)) ∗ ow c 0 -∗ Q ⟨⟩) -∗ WP c (forK allK fun k => waitC (arr a) M hM k) Q) := by
  have h := wp_forK (R := known x K) c (fun k => waitC (F := F) (arr a) M hM k) (fun k => iprop(crd c a k ∗ posn c a k 0))
    (fun k => iprop(posn c a k 1 ∗ payX x c a k)) (fun _ => ow c 0) (fun k ks => by
      iintro ⟨#HR, ⟨Hc, Hp⟩, HO⟩
      iapply (wp_waitC x K c a k ha _ rfl 0 (above_zero _)) $$ [Hc Hp HO]
      · isplitr; · iexact HR
        isplitl [Hc]; · iexact Hc
        isplitl [HO] <;> iassumption
      iintro ⟨HO, Hp, Hx⟩
      isplitr [HO]
      · isplitl [Hp] <;> iassumption
      iexact HO) Q
  simpa only [bigSep_sep'] using h

/-- Taking in the other half's total: each chunk is waited for, read, widened and written to the result. -/
theorem take_z (off : Fin 8 → Fin 2 → ℕ) (hoff : ∀ k, off k = ![1024 * (ho c).val + 128 * k.val, 0])
    (hin : ∀ k a, off k a + S128x512.size a ≤ S2048x512.size a) (Q : PUnit → sProp 𝕄) :
    iprop(known x K ∗ (all8 (crd c 7) ∗ (all8 fun k => posn c 7 k 0) ∗ all8 (anyO (F := F) c (ho c))) ∗ ow c 0)
      ⊢ iprop((((all8 fun k => posn c 7 k 1) ∗ (all8 fun k => own c zM k fullShare (tt x (zc c) k)) ∗ all8 fun k => ownO c (ho c) k (widen (tt x (zc c) k))) ∗ ow c 0 -∗ Q ⟨⟩)
        -∗ WP c (forK allK fun k => do
            waitC rzs zM (Memref.isWhole_whole _) k
            let v ← loadC zM k
            writeO (off k) (hin k) (widen v)) Q) := by
  have h := wp_forK (R := known x K) c (fun k => do
            waitC rzs zM (Memref.isWhole_whole _) k
            let v ← loadC zM k
            writeO (F := F) (off k) (hin k) (widen v)) (fun k => iprop(crd c 7 k ∗ posn c 7 k 0 ∗ anyO (F := F) c (ho c) k))
    (fun k => iprop(posn c 7 k 1 ∗ own c zM k fullShare (tt x (zc c) k) ∗ ownO c (ho c) k (widen (tt x (zc c) k)))) (fun _ => ow c 0) (fun k ks => by
      simp only [wp_seq]
      iintro ⟨#HR, ⟨Hc, Hp, Ho⟩, HO⟩
      iapply (wp_waitC x K c 7 k rfl (own c zM k fullShare (tt x (zc c) k)) rfl 0 (above_zero _)) $$ [Hc Hp HO]
      · isplitr; · iexact HR
        isplitl [Hc]; · iexact Hc
        isplitl [HO] <;> iassumption
      iintro ⟨HO, Hp, Hz⟩
      iapply (wp_loadC c zM k fullShare (tt x (zc c) k)) $$ [Hz]
      · iexact Hz
      iintro Hz
      iapply (wp_writeO c (ho c) k (off k) (hoff k) (hin k)) $$ [Ho]
      · iexact Ho
      iintro Ho
      isplitr [HO]
      · isplitl [Hp]; · iexact Hp
        isplitl [Hz] <;> iassumption
      iexact HO) Q
  simpa only [bigSep_sep'] using h

/-! ## The loops of a device that does not add -/

section Outer
variable (hc : isIn c = false)
include hc

/-- Sending the half to the partner. -/
theorem out_send (O : CellTallies nD τ sig Unit) (d' : Dev nD) (hd : d' = yp c) (Q : PUnit → sProp 𝕄) :
    iprop(known x K ∗ ((all8 fun k => own c hM k fullShare (Hc x c k)) ∗ (all8 fun k => anyC (F := F) (yp c) r1M k)
          ∗ (all8 fun k => tok c (some (0, k)) 0) ∗ all8 fun k => tok (yp c) (some (1, k)) 0) ∗ ow c (O + tl (fun k => due (yp c) 1 k) allK))
      ⊢ iprop((all8 (crd c 0) ∗ ow c O -∗ Q ⟨⟩)
        -∗ WP c (forK allK fun k => sendC d' hM (Memref.isWhole_whole _) r1M (Memref.isWhole_whole _) rfl s1s r1s k) Q) := by
  have h := wp_forK (R := known x K) c (fun k => sendC (F := F) d' hM (Memref.isWhole_whole _) r1M (Memref.isWhole_whole _) rfl s1s r1s k)
    (fun k => iprop(own c hM k fullShare (Hc x c k) ∗ anyC (F := F) (yp c) r1M k ∗ tok c (some (0, k)) 0 ∗ tok (yp c) (some (1, k)) 0))
    (fun k => crd c 0 k) (fun ks => ow c (O + tl (fun k => due (yp c) 1 k) ks)) (fun k ks => by
      iintro ⟨#HR, ⟨Hh, Hr, Ht, Ht'⟩, HO⟩
      iapply (wp_sendC x K c (yp c) d' hd (src := hM) (dst := r1M) 0 1 k fullShare (Hc x c k) (by simp [act, hc]) (by simp [act, isIn_yp, hc]) rfl
        (by show own (yp c) r1M k fullShare (Hc x (yp (yp c)) k) = _; rw [yp_yp]) (O + tl (fun k => due (yp c) 1 k) ks)) $$ [Hh Hr Ht Ht' HO]
      · isplitr; · iexact HR
        isplitl [Hh]; · iexact Hh
        isplitl [Hr]; · iexact Hr
        isplitl [HO]; · rw [add_assoc]; iexact HO
        isplitl [Ht] <;> iassumption
      iintro H; iexact H) Q
  simpa only [bigSep_sep', tl, add_zero] using h

/-- Passing the total on across `z` and writing it to the result. -/
theorem out_pass (d' : Dev nD) (hd : d' = zc c) (off : Fin 8 → Fin 2 → ℕ) (hoff : ∀ k, off k = ![1024 * (hf c).val + 128 * k.val, 0])
    (hin : ∀ k a, off k a + S128x512.size a ≤ S2048x512.size a) (Q : PUnit → sProp 𝕄) :
    iprop(known x K ∗ (all8 (crd c 5) ∗ (all8 fun k => posn c 5 k 0) ∗ (all8 fun k => anyC (F := F) (zc c) zM k)
          ∗ (all8 fun k => tok c (some (6, k)) 0) ∗ (all8 fun k => tok (zc c) (some (7, k)) 0) ∗ all8 (anyO (F := F) c (hf c)))
        ∗ ow c (tl (fun k => due (zc c) 7 k) allK))
      ⊢ iprop((((all8 fun k => posn c 5 k 1) ∗ all8 (crd c 6) ∗ (all8 fun k => own c tM k fullShare.left (tt x c k))
            ∗ all8 fun k => ownO c (hf c) k (widen (tt x c k))) ∗ ow c 0 -∗ Q ⟨⟩)
        -∗ WP c (forK allK fun k => do
            waitC r3s tM (Memref.isWhole_whole _) k
            sendC d' tM (Memref.isWhole_whole _) zM (Memref.isWhole_whole _) rfl szs rzs k
            let v ← loadC tM k
            writeO (off k) (hin k) (widen v)) Q) := by
  have h := wp_forK (R := known x K) c (fun k => do
            waitC r3s tM (Memref.isWhole_whole _) k
            sendC d' tM (Memref.isWhole_whole _) zM (Memref.isWhole_whole _) rfl szs rzs k
            let v ← loadC tM k
            writeO (F := F) (off k) (hin k) (widen v))
    (fun k => iprop(crd c 5 k ∗ posn c 5 k 0 ∗ anyC (F := F) (zc c) zM k ∗ tok c (some (6, k)) 0 ∗ tok (zc c) (some (7, k)) 0 ∗ anyO (F := F) c (hf c) k))
    (fun k => iprop(posn c 5 k 1 ∗ crd c 6 k ∗ own c tM k fullShare.left (tt x c k) ∗ ownO c (hf c) k (widen (tt x c k))))
    (fun ks => ow c (tl (fun k => due (zc c) 7 k) ks)) (fun k ks => by
      simp only [wp_seq]
      iintro ⟨#HR, ⟨Hc, Hp, Hz, Ht, Ht', Ho⟩, HO⟩
      iapply (wp_waitC x K c 5 k (by simp [act, hc]) (own c tM k fullShare (tt x c k)) rfl (tl (fun k => due (zc c) 7 k) (k :: ks)) (above_tl (fun k => above_due _ _ _ (by decide)) _)) $$ [Hc Hp HO]
      · isplitr; · iexact HR
        isplitl [Hc]; · iexact Hc
        isplitl [HO] <;> iassumption
      iintro ⟨HO, Hp, Hx⟩
      ihave Hx' := (own_split c tM k (tt x c k)) $$ Hx
      icases Hx' with ⟨HL, HRt⟩
      iapply (wp_sendC x K c (zc c) d' hd (src := tM) (dst := zM) 6 7 k fullShare.right (tt x c k) rfl rfl rfl
        (by show own (zc c) zM k fullShare (tt x (zc (zc c)) k) = _; rw [zc_zc]) (tl (fun k => due (zc c) 7 k) ks)) $$ [HRt Hz Ht Ht' HO]
      · isplitr; · iexact HR
        isplitl [HRt]; · iexact HRt
        isplitl [Hz]; · iexact Hz
        isplitl [HO]; · iexact HO
        isplitl [Ht] <;> iassumption
      iintro ⟨Hc, HO⟩
      iapply (wp_loadC c tM k fullShare.left (tt x c k)) $$ [HL]
      · iexact HL
      iintro HL
      iapply (wp_writeO c (hf c) k (off k) (hoff k) (hin k)) $$ [Ho]
      · iexact Ho
      iintro Ho
      isplitr [HO]
      · isplitl [Hp]; · iexact Hp
        isplitl [Hc]; · iexact Hc
        isplitl [HL] <;> iassumption
      iexact HO) Q
  simpa only [bigSep_sep', tl] using h

end Outer

/-! ## The loops of a device that adds -/

section Inner
variable (hc : isIn c = true)
include hc

/-- Adding the partner's half to its own and sending the sum to the other adding device. -/
theorem in_add (O : CellTallies nD τ sig Unit) (hO : Above 3 O) (d' : Dev nD) (hd : d' = ip c) (Q : PUnit → sProp 𝕄) :
    iprop(known x K ∗ (all8 (crd c 1) ∗ (all8 fun k => posn c 1 k 0) ∗ (all8 fun k => own c hM k fullShare (Hc x c k)) ∗ (all8 fun k => anyC (F := F) c pM k)
          ∗ (all8 fun k => anyC (F := F) (ip c) r2M k) ∗ (all8 fun k => tok c (some (2, k)) 0) ∗ all8 fun k => tok (ip c) (some (3, k)) 0)
        ∗ ow c (O + tl (fun k => due (ip c) 3 k) allK))
      ⊢ iprop((((all8 fun k => posn c 1 k 1) ∗ (all8 fun k => own c hM k fullShare (Hc x c k)) ∗ (all8 fun k => own c r1M k fullShare (Hc x (yp c) k))
            ∗ (all8 fun k => own c pM k fullShare.left (Pc x c k)) ∗ all8 (crd c 2)) ∗ ow c O -∗ Q ⟨⟩)
        -∗ WP c (forK allK fun k => do
            waitC r1s r1M (Memref.isWhole_whole _) k
            let a ← loadC hM k
            let b ← loadC r1M k
            let _p : Vec F S128x512 .bf16 ← loadC pM k
            storeC pM (Memref.isWhole_whole _) k (sumN a b)
            sendC d' pM (Memref.isWhole_whole _) r2M (Memref.isWhole_whole _) rfl s2s r2s k) Q) := by
  have h := wp_forK (R := known x K) c (fun k => do
            waitC r1s r1M (Memref.isWhole_whole _) k
            let a ← loadC hM k
            let b ← loadC r1M k
            let _p : Vec F S128x512 .bf16 ← loadC pM k
            storeC pM (Memref.isWhole_whole _) k (sumN a b)
            sendC (F := F) d' pM (Memref.isWhole_whole _) r2M (Memref.isWhole_whole _) rfl s2s r2s k)
    (fun k => iprop(crd c 1 k ∗ posn c 1 k 0 ∗ own c hM k fullShare (Hc x c k) ∗ anyC (F := F) c pM k
          ∗ anyC (F := F) (ip c) r2M k ∗ tok c (some (2, k)) 0 ∗ tok (ip c) (some (3, k)) 0))
    (fun k => iprop(posn c 1 k 1 ∗ own c hM k fullShare (Hc x c k) ∗ own c r1M k fullShare (Hc x (yp c) k)
            ∗ own c pM k fullShare.left (Pc x c k) ∗ crd c 2 k))
    (fun ks => ow c (O + tl (fun k => due (ip c) 3 k) ks)) (fun k ks => by
      simp only [wp_seq]
      iintro ⟨#HR, ⟨Hc, Hp, Hh, Hs, Hr, Ht, Ht'⟩, HO⟩
      iapply (wp_waitC x K c 1 k (by simp [act, hc]) (own c r1M k fullShare (Hc x (yp c) k)) rfl (O + tl (fun k => due (ip c) 3 k) (k :: ks))
        (above_add (above_mono (by decide) hO) (above_tl (fun k => above_due _ _ _ (by decide)) _))) $$ [Hc Hp HO]
      · isplitr; · iexact HR
        isplitl [Hc]; · iexact Hc
        isplitl [HO] <;> iassumption
      iintro ⟨HO, Hp, Hx⟩
      iapply (wp_loadC c hM k fullShare (Hc x c k)) $$ [Hh]
      · iexact Hh
      iintro Hh
      iapply (wp_loadC c r1M k fullShare (Hc x (yp c) k)) $$ [Hx]
      · iexact Hx
      iintro Hx
      unfold anyC
      icases Hs with ⟨%Y, Hs⟩
      iapply (wp_loadC c pM k fullShare Y) $$ [Hs]
      · iexact Hs
      iintro Hs
      iapply (wp_storeC c pM _ k Y (Pc x c k)) $$ [Hs]
      · iexact Hs
      iintro Hs
      ihave Hs' := (own_split c pM k (Pc x c k)) $$ Hs
      icases Hs' with ⟨HL, HRt⟩
      iapply (wp_sendC x K c (ip c) d' hd (src := pM) (dst := r2M) 2 3 k fullShare.right (Pc x c k) (by simp [act, hc]) (by simp [act, isIn_ip, hc]) rfl
        (by show own (ip c) r2M k fullShare (Pc x (ip (ip c)) k) = _; rw [ip_ip]) (O + tl (fun k => due (ip c) 3 k) ks)) $$ [HRt Hr Ht Ht' HO]
      · isplitr; · iexact HR
        isplitl [HRt]; · iexact HRt
        isplitl [Hr]; · unfold anyC; iexact Hr
        isplitl [HO]; · rw [add_assoc]; iexact HO
        isplitl [Ht] <;> iassumption
      iintro ⟨Hc, HO⟩
      isplitr [HO]
      · isplitl [Hp]; · iexact Hp
        isplitl [Hh]; · iexact Hh
        isplitl [Hx]; · iexact Hx
        isplitl [HL] <;> iassumption
      iexact HO) Q
  simpa only [bigSep_sep', tl, add_zero] using h

/-- Adding the two sums, sending the total to the partner and across `z`, and writing it to the result. -/
theorem in_total (d d' : Dev nD) (hd : d = yp c) (hd' : d' = zc c) (off : Fin 8 → Fin 2 → ℕ)
    (hoff : ∀ k, off k = ![1024 * (hf c).val + 128 * k.val, 0])
    (hin : ∀ k a, off k a + S128x512.size a ≤ S2048x512.size a) (Q : PUnit → sProp 𝕄) :
    iprop(known x K ∗ (all8 (crd c 3) ∗ (all8 fun k => posn c 3 k 0) ∗ (all8 fun k => own c pM k fullShare.left (Pc x c k))
          ∗ (all8 fun k => anyC (F := F) c tM k) ∗ (all8 fun k => anyC (F := F) (yp c) tM k) ∗ (all8 fun k => anyC (F := F) (zc c) zM k)
          ∗ (all8 fun k => tok c (some (4, k)) 0) ∗ (all8 fun k => tok (yp c) (some (5, k)) 0)
          ∗ (all8 fun k => tok c (some (6, k)) 0) ∗ (all8 fun k => tok (zc c) (some (7, k)) 0) ∗ all8 (anyO (F := F) c (hf c)))
        ∗ ow c (tl (fun k => due (zc c) 7 k + due (yp c) 5 k) allK))
      ⊢ iprop((((all8 fun k => posn c 3 k 1) ∗ (all8 fun k => own c pM k fullShare.left (Pc x c k)) ∗ (all8 fun k => own c r2M k fullShare (Pc x (ip c) k))
            ∗ all8 (crd c 4) ∗ all8 (crd c 6) ∗ all8 fun k => ownO c (hf c) k (Wc x c k)) ∗ ow c 0 -∗ Q ⟨⟩)
        -∗ WP c (forK allK fun k => do
            waitC r2s r2M (Memref.isWhole_whole _) k
            let a ← loadC pM k
            let b ← loadC r2M k
            let _p : Vec F S128x512 .bf16 ← loadC tM k
            storeC tM (Memref.isWhole_whole _) k (sumN a b)
            sendC d tM (Memref.isWhole_whole _) tM (Memref.isWhole_whole _) rfl s3s r3s k
            sendC d' tM (Memref.isWhole_whole _) zM (Memref.isWhole_whole _) rfl szs rzs k
            writeO (off k) (hin k) (sumW a b)) Q) := by
  have h := wp_forK (R := known x K) c (fun k => do
            waitC r2s r2M (Memref.isWhole_whole _) k
            let a ← loadC pM k
            let b ← loadC r2M k
            let _p : Vec F S128x512 .bf16 ← loadC tM k
            storeC tM (Memref.isWhole_whole _) k (sumN a b)
            sendC d tM (Memref.isWhole_whole _) tM (Memref.isWhole_whole _) rfl s3s r3s k
            sendC d' tM (Memref.isWhole_whole _) zM (Memref.isWhole_whole _) rfl szs rzs k
            writeO (F := F) (off k) (hin k) (sumW a b))
    (fun k => iprop(crd c 3 k ∗ posn c 3 k 0 ∗ own c pM k fullShare.left (Pc x c k)
          ∗ anyC (F := F) c tM k ∗ anyC (F := F) (yp c) tM k ∗ anyC (F := F) (zc c) zM k
          ∗ tok c (some (4, k)) 0 ∗ tok (yp c) (some (5, k)) 0
          ∗ tok c (some (6, k)) 0 ∗ tok (zc c) (some (7, k)) 0 ∗ anyO (F := F) c (hf c) k))
    (fun k => iprop(posn c 3 k 1 ∗ own c pM k fullShare.left (Pc x c k) ∗ own c r2M k fullShare (Pc x (ip c) k)
            ∗ crd c 4 k ∗ crd c 6 k ∗ ownO c (hf c) k (Wc x c k)))
    (fun ks => ow c (tl (fun k => due (zc c) 7 k + due (yp c) 5 k) ks)) (fun k ks => by
      simp only [wp_seq]
      iintro ⟨#HR, ⟨Hc, Hp, Hl, Hs, Hy, Hz, Ht4, Ht5, Ht6, Ht7, Ho⟩, HO⟩
      iapply (wp_waitC x K c 3 k (by simp [act, hc]) (own c r2M k fullShare (Pc x (ip c) k)) rfl (tl (fun k => due (zc c) 7 k + due (yp c) 5 k) (k :: ks))
        (above_tl (fun k => above_add (above_due _ _ _ (by decide)) (above_due _ _ _ (by decide))) _)) $$ [Hc Hp HO]
      · isplitr; · iexact HR
        isplitl [Hc]; · iexact Hc
        isplitl [HO] <;> iassumption
      iintro ⟨HO, Hp, Hx⟩
      iapply (wp_loadC c pM k fullShare.left (Pc x c k)) $$ [Hl]
      · iexact Hl
      iintro Hl
      iapply (wp_loadC c r2M k fullShare (Pc x (ip c) k)) $$ [Hx]
      · iexact Hx
      iintro Hx
      icases (show anyC (F := F) c tM k ⊢ iprop(∃ X : CV F, own c tM k fullShare X) from .rfl) $$ Hs with ⟨%Y, Hs⟩
      iapply (wp_loadC c tM k fullShare Y) $$ [Hs]
      · iexact Hs
      iintro Hs
      iapply (wp_storeC c tM _ k Y (Tc x c k)) $$ [Hs]
      · iexact Hs
      iintro Hs
      rw [← tt_in x c hc]
      ihave Hs' := (own_split c tM k (tt x c k)) $$ Hs
      icases Hs' with ⟨HL, HRt⟩
      iapply (wp_sendC x K c (yp c) d hd (src := tM) (dst := tM) 4 5 k fullShare.left (tt x c k) (by simp [act, hc]) (by simp [act, isIn_yp, hc]) rfl
        (by show own (yp c) tM k fullShare (tt x (yp c) k) = _; rw [tt_yp x c hc])
        (tl (fun k => due (zc c) 7 k + due (yp c) 5 k) ks + due (zc c) 7 k)) $$ [HL Hy Ht4 Ht5 HO]
      · isplitr; · iexact HR
        isplitl [HL]; · iexact HL
        isplitl [Hy]; · iexact Hy
        isplitl [HO]; · rw [add_assoc]; iexact HO
        isplitl [Ht4] <;> iassumption
      iintro ⟨Hc4, HO⟩
      iapply (wp_sendC x K c (zc c) d' hd' (src := tM) (dst := zM) 6 7 k fullShare.right (tt x c k) rfl rfl rfl
        (by show own (zc c) zM k fullShare (tt x (zc (zc c)) k) = _; rw [zc_zc])
        (tl (fun k => due (zc c) 7 k + due (yp c) 5 k) ks)) $$ [HRt Hz Ht6 Ht7 HO]
      · isplitr; · iexact HR
        isplitl [HRt]; · iexact HRt
        isplitl [Hz]; · iexact Hz
        isplitl [HO]; · iexact HO
        isplitl [Ht6] <;> iassumption
      iintro ⟨Hc6, HO⟩
      iapply (wp_writeO c (hf c) k (off k) (hoff k) (hin k)) $$ [Ho]
      · iexact Ho
      iintro Ho
      isplitr [HO]
      · isplitl [Hp]; · iexact Hp
        isplitl [Hl]; · iexact Hl
        isplitl [Hx]; · iexact Hx
        isplitl [Hc4]; · iexact Hc4
        isplitl [Hc6]; · iexact Hc6
        iexact Ho
      iexact HO) Q
  simpa only [bigSep_sep', tl] using h

end Inner

end Cert.AllReduce
-- ==== Proof.Buffers.lean ====
/-
Buffers and their chunks: a buffer held whole is held chunk by chunk, and back.
-/
module

public import proofs.«01_k».proof.Proof.Loops
public import Idealize.ShloMosaic.Lib.Memref
public import Idealize.ShloMosaic.Lib.MemrefSat

@[expose] public section

noncomputable section

namespace Cert.AllReduce

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- Every element type has a value. -/
instance elt_inhabited (e : EltTy) : Nonempty (Elt F e) := by
  cases e <;> first | exact ⟨(0 : BitVec _)⟩ | exact ⟨FloatOps.ofBits _ 0⟩

/-! ## Rectangles that cut a shape -/

section Glue
variable {s : Shape} {T : Type} [Fintype T] (r : T → Rect s)
  (hd : ∀ t t', t ≠ t' → Disjoint (r t).set (r t').set)
  (hcov : (Finset.univ : Finset T).biUnion (fun t => (r t).set) = Finset.univ)
include hd hcov

/-- Every index lies in one rectangle. -/
theorem in_rect (i : s.Idx) : ∃ (t : T) (j : (r t).shape.Idx), (r t).emb j = i := by
  obtain ⟨t, -, hx⟩ := Finset.mem_biUnion.mp (hcov.symm ▸ Finset.mem_univ i)
  rw [← Rect.map_emb_univ, Finset.mem_map] at hx
  obtain ⟨j, -, e⟩ := hx
  exact ⟨t, j, e⟩

/-- Contents given rectangle by rectangle are the parts of one. -/
theorem exists_glue {α : Type} (X : (t : T) → (r t).shape.Idx → α) : ∃ Y : s.Idx → α, ∀ t, (fun j => Y ((r t).emb j)) = X t := by
  classical
  have h := in_rect r hd hcov
  choose t j e using h
  refine ⟨fun i => X (t i) (j i), fun t' => funext fun j' => ?_⟩
  have key : ∀ (t₁ : T) (j₁ : (r t₁).shape.Idx), (r t₁).emb j₁ = (r t').emb j' → X t₁ j₁ = X t' j' := fun t₁ j₁ he => by
    by_cases ht : t₁ = t'
    · subst ht
      exact congrArg _ ((r t₁).emb.injective he)
    · have h₁ : (r t').emb j' ∈ (r t₁).set := by
        rw [← he, ← Rect.map_emb_univ]; exact Finset.mem_map_of_mem _ (Finset.mem_univ _)
      have h₂ : (r t').emb j' ∈ (r t').set := by
        rw [← Rect.map_emb_univ]; exact Finset.mem_map_of_mem _ (Finset.mem_univ _)
      exact absurd h₂ (Finset.disjoint_left.mp (hd t₁ t' ht) h₁)
  exact key _ _ (e _)

end Glue

theorem crect_disjoint (k k' : Fin 8) (h : k ≠ k') : Disjoint (crect k).set (crect k').set :=
  Rect.unit_disjoint 0 (by
    have : k.val ≠ k'.val := fun e => h (Fin.ext e)
    show 128 * k.val + 128 ≤ 128 * k'.val ∨ 128 * k'.val + 128 ≤ 128 * k.val
    omega)

theorem crect_cover : (Finset.univ : Finset (Fin 8)).biUnion (fun k => (crect k).set) = Finset.univ := by
  ext i
  simp only [Finset.mem_biUnion, Finset.mem_univ, true_and, iff_true]
  have h0 : (i 0).val < 1024 := (i 0).isLt
  have h1 : (i 1).val < 512 := (i 1).isLt
  refine ⟨⟨(i 0).val / 128, by omega⟩, Rect.mem_set_unit.mpr (Fin.forall_fin_two.mpr ⟨?_, ?_⟩)⟩
  · show 128 * ((i 0).val / 128) ≤ (i 0).val ∧ (i 0).val < 128 * ((i 0).val / 128) + 128
    omega
  · show 0 ≤ (i 1).val ∧ (i 1).val < 0 + 512
    omega

/-- The chunks of the result. -/
abbrev orects (p : Fin 2 × Fin 8) : Rect S2048x512 := orect p.1 p.2

theorem orect_disjoint (p p' : Fin 2 × Fin 8) (h : p ≠ p') : Disjoint (orects p).set (orects p').set :=
  Rect.unit_disjoint 0 (by
    obtain ⟨a, k⟩ := p
    obtain ⟨a', k'⟩ := p'
    have : a.val ≠ a'.val ∨ k.val ≠ k'.val := by
      by_contra hn
      exact h (Prod.ext (Fin.ext (by show a.val = a'.val; omega)) (Fin.ext (by show k.val = k'.val; omega)))
    have := k.isLt; have := k'.isLt
    show 1024 * a.val + 128 * k.val + 128 ≤ 1024 * a'.val + 128 * k'.val ∨ 1024 * a'.val + 128 * k'.val + 128 ≤ 1024 * a.val + 128 * k.val
    omega)

theorem orect_cover : (Finset.univ : Finset (Fin 2 × Fin 8)).biUnion (fun p => (orects p).set) = Finset.univ := by
  ext i
  simp only [Finset.mem_biUnion, Finset.mem_univ, true_and, iff_true]
  have h0 : (i 0).val < 2048 := (i 0).isLt
  have h1 : (i 1).val < 512 := (i 1).isLt
  refine ⟨(⟨(i 0).val / 1024, by omega⟩, ⟨(i 0).val % 1024 / 128, by omega⟩), Rect.mem_set_unit.mpr (Fin.forall_fin_two.mpr ⟨?_, ?_⟩)⟩
  · show 1024 * ((i 0).val / 1024) + 128 * ((i 0).val % 1024 / 128) ≤ (i 0).val ∧ (i 0).val < 1024 * ((i 0).val / 1024) + 128 * ((i 0).val % 1024 / 128) + 128
    omega
  · show 0 ≤ (i 1).val ∧ (i 1).val < 0 + 512
    omega

/-! ## Scratch buffers -/

variable (c : Dev nD)

/-- A buffer held whole is held by chunks. -/
theorem split_buf (M : SBuf) (X : S1024x512.Idx → Elt F .bf16) :
    (owns (c : Thread nD τ) M fullShare X : sProp 𝕄) ⊢ all8 fun k => own c M k fullShare fun i => X ((crect k).emb i) :=
  owns_rects (c : Thread nD τ) M fullShare crect (fun _ _ => rfl) crect_disjoint crect_cover X

theorem split_any (M : SBuf) (X : S1024x512.Idx → Elt F .bf16) :
    (owns (c : Thread nD τ) M fullShare X : sProp 𝕄) ⊢ anyB (F := F) c M :=
  (split_buf c M X).trans (bigSep_mono fun k _ => own_any c M k _)

/-- Chunks held at contents are chunks held. -/
theorem any_all (M : SBuf) (X : Fin 8 → CV F) : (all8 fun k => own c M k fullShare (X k)) ⊢ anyB (F := F) c M :=
  bigSep_mono fun k _ => own_any c M k _

/-- All chunks held are the buffer held whole. -/
theorem join_any (M : SBuf) : anyB (F := F) c M ⊢ (iprop(∃ X : S1024x512.Idx → Elt F .bf16, owns (c : Thread nD τ) M fullShare X) : sProp 𝕄) := by
  unfold anyB anyC
  have : Nonempty (CV F) := ⟨fun _ => (elt_inhabited (F := F) .bf16).some⟩
  refine (BI.bigSep_exists_pi Finset.univ (fun (k : Fin 8) (X : CV F) => own c M k fullShare X)).trans ?_
  iintro ⟨%Xs, H⟩
  obtain ⟨X, hX⟩ := exists_glue crect crect_disjoint crect_cover (fun k => Xs k)
  iexists X
  iapply (owns_of_rects (c : Thread nD τ) M fullShare crect (fun _ _ => rfl) crect_disjoint crect_cover X)
  iapply (Entails.of_eq (show (bigSep Finset.univ fun k : Fin 8 => own c M k fullShare (Xs k) : sProp 𝕄) = _ from
    bigSep_congr fun k _ => by unfold own; rw [← hX k]))
  iexact H

/-- Two shares of a chunk joined. -/
theorem own_join (M : SBuf) (k : Fin 8) (X : CV F) :
    iprop(own c M k fullShare.left X ∗ own c M k fullShare.right X) ⊢ own c M k fullShare X := by
  unfold own owns
  iintro ⟨⟨%f, %hf, H1⟩, ⟨%g, %hg, H2⟩⟩
  have e : ((chunk M k).view.loc (c : Thread nD τ) ↦[(chunk M k).view.set]{fullShare.right} g : sProp 𝕄)
      = ((chunk M k).view.loc (c : Thread nD τ) ↦[(chunk M k).view.set]{fullShare.right} f) :=
    pointsTo_congr fun i hi => by
      rw [View.set, Finset.mem_map] at hi
      obtain ⟨j, -, rfl⟩ := hi
      have := (congrFun hg j).trans (congrFun hf j).symm
      simp only [View.read] at this
      exact (cast_inj _).mp this
  ihave H2 := (Entails.of_eq e) $$ H2
  iexists f; isplitr; · (ipureintro; exact hf)
  iapply (show iprop(((chunk M k).view.loc (c : Thread nD τ) ↦[(chunk M k).view.set]{fullShare.left} f) ∗ (chunk M k).view.loc (c : Thread nD τ) ↦[(chunk M k).view.set]{fullShare.right} f)
    ⊢ ((chunk M k).view.loc (c : Thread nD τ) ↦[(chunk M k).view.set]{fullShare} f : sProp 𝕄) from (pointsTo_share (PosShare.mem_left_op_right fullShare)).2)
  isplitl [H1] <;> iassumption

theorem join_all (M : SBuf) (X : Fin 8 → CV F) :
    iprop((all8 fun k => own c M k fullShare.left (X k)) ∗ all8 fun k => own c M k fullShare.right (X k)) ⊢ anyB (F := F) c M := by
  rw [← bigSep_sep']
  exact bigSep_mono fun k _ => (own_join c M k (X k)).trans (own_any c M k _)

/-! ## The result -/

/-- Over both halves. -/
theorem two_halves (A : Fin 2 → sProp 𝕄) : bigSep Finset.univ A = iprop(A (hf c) ∗ A (ho c)) :=
  bigSep_univ_eq_bigSepL [hf c, ho c]
    (Finset.ext fun a => by
      have h1 : a.val = (c.val % 4) % 2 ∨ a.val = 1 - (c.val % 4) % 2 := by have := a.isLt; omega
      refine ⟨fun _ => List.mem_toFinset.mpr ?_, fun _ => Finset.mem_univ _⟩
      rcases h1 with h | h
      · exact List.mem_cons.mpr (Or.inl (Fin.ext h))
      · exact List.mem_cons.mpr (Or.inr (List.mem_singleton.mpr (Fin.ext h))))
    (by
      refine List.nodup_cons.mpr ⟨fun h => ?_, List.nodup_singleton _⟩
      have := congrArg Fin.val (List.mem_singleton.mp h)
      simp only [hf, ho] at this
      omega) A

variable (x : Blocks F)

/-- What a device writes to chunk `k` of half `h` of its result. -/
def resC (h : Fin 2) (k : Fin 8) : Vec F S128x512 .f32 :=
  if h = hf c then (if isIn c then Wc x c k else widen (tt x c k)) else widen (tt x (zc c) k)

/-- A device's result. -/
def outAt : S2048x512.Idx → Elt F .f32 :=
  (exists_glue orects orect_disjoint orect_cover (fun p => resC c x p.1 p.2)).choose

theorem outAt_chunk (h : Fin 2) (k : Fin 8) : (fun j => outAt c x ((orect h k).emb j)) = resC c x h k :=
  (exists_glue orects orect_disjoint orect_cover (fun p => resC c x p.1 p.2)).choose_spec (h, k)

/-- The result, held whole, is held by chunks of both halves. -/
theorem split_out (X : S2048x512.Idx → Elt F .f32) :
    (owns (c : Thread nD τ) oM fullShare X : sProp 𝕄) ⊢ iprop(all8 (anyO (F := F) c (hf c)) ∗ all8 (anyO (F := F) c (ho c))) := by
  rw [← two_halves c (fun h => all8 (anyO (F := F) c h)), ← bigSep_univ_prod (fun p : Fin 2 × Fin 8 => anyO (F := F) c p.1 p.2)]
  refine (owns_rects (c : Thread nD τ) oM fullShare orects (fun _ _ => rfl) orect_disjoint orect_cover X).trans (bigSep_mono fun p _ => show _ ⊢ (anyO (F := F) c p.1 p.2 : sProp 𝕄) from ?_)
  unfold anyO ownO
  iintro H; iexists _; iexact H

theorem hf_ne_ho : ho c ≠ hf c := fun h => by
  have := congrArg Fin.val h
  simp only [hf, ho] at this
  omega

/-- All chunks written are the result. -/
theorem join_out : iprop((all8 fun k => ownO c (hf c) k (resC c x (hf c) k)) ∗ all8 fun k => ownO c (ho c) k (resC c x (ho c) k))
    ⊢ (owns (c : Thread nD τ) oM fullShare (outAt c x) : sProp 𝕄) := by
  rw [← two_halves c (fun h => all8 fun k => ownO c h k (resC c x h k)), ← bigSep_univ_prod (fun p : Fin 2 × Fin 8 => ownO c p.1 p.2 (resC c x p.1 p.2))]
  refine (bigSep_mono fun p _ => ?_).trans (owns_of_rects (c : Thread nD τ) oM fullShare orects (fun _ _ => rfl) orect_disjoint orect_cover (outAt c x))
  unfold ownO; rw [← outAt_chunk c x p.1 p.2]; exact BI.Entails.refl _

theorem res_own : resC c x (hf c) = fun k => if isIn c then Wc x c k else widen (tt x c k) := funext fun k => if_pos rfl
theorem res_other : resC c x (ho c) = fun k => widen (tt x (zc c) k) := funext fun k => if_neg (hf_ne_ho c)

end Cert.AllReduce
-- ==== Proof.Branches.lean ====
/-
The two branches, loop after loop: from what a device has when it enters its branch to what it has at the end.
-/
module

public import proofs.«01_k».proof.Proof.Buffers

@[expose] public section

noncomputable section

namespace Cert.AllReduce

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- Over all eight arrays. -/
theorem eight (A : Fin 8 → sProp 𝕄) : bigSep Finset.univ A = iprop(A 0 ∗ A 1 ∗ A 2 ∗ A 3 ∗ A 4 ∗ A 5 ∗ A 6 ∗ A 7) :=
  bigSep_univ_eq_bigSepL [0, 1, 2, 3, 4, 5, 6, 7] (by decide) (by decide) A

/-- The device that raises semaphores of array `a` when device `c` copies: whose cell it is. -/
def peer : Fin 8 → Dev nD → Dev nD := ![id, yp, id, ip, id, yp, id, zc]

/-- The position a device's array of semaphores ends at. -/
def rEnd (c : Dev nD) (a : Fin 8) : ℕ := if act c a then 1 else 0

variable (x : Blocks F) (K : Dev nD × J → ℕ) (c : Dev nD)

variable (F) in
/-- The tokens a device's copies are made with. -/
def toksX : sProp 𝕄 := bigSep Finset.univ fun a : Fin 8 => all8 fun k => tok (F := F) (peer a c) (some (a, k)) 0

theorem anyB_chunks (d : Dev nD) (M : SBuf) : anyB (F := F) d M ⊢ all8 (anyC d M) := BI.Entails.refl _

theorem toksX_eq : toksX F c = iprop((all8 fun k => tok (F := F) c (some (0, k)) 0) ∗ (all8 fun k => tok (F := F) (yp c) (some (1, k)) 0)
    ∗ (all8 fun k => tok (F := F) c (some (2, k)) 0) ∗ (all8 fun k => tok (F := F) (ip c) (some (3, k)) 0) ∗ (all8 fun k => tok (F := F) c (some (4, k)) 0)
    ∗ (all8 fun k => tok (F := F) (yp c) (some (5, k)) 0) ∗ (all8 fun k => tok (F := F) c (some (6, k)) 0) ∗ all8 fun k => tok (F := F) (zc c) (some (7, k)) 0) := by
  unfold toksX; rw [eight]; rfl

variable (F) in
/-- A device's positions. -/
def posns (r : Fin 8 → ℕ) : sProp 𝕄 := bigSep Finset.univ fun a : Fin 8 => all8 fun k => posn (F := F) c a k (r a)

variable (F) in
/-- The scratch buffers. -/
def bufs : sProp 𝕄 :=
  iprop(anyB (F := F) c hM ∗ anyB (F := F) c r1M ∗ anyB (F := F) c pM ∗ anyB (F := F) c r2M ∗ anyB (F := F) c tM ∗ anyB (F := F) c zM)

/-- What a device's branch leaves: the buffers, the positions, the result. -/
def done : sProp 𝕄 :=
  iprop(bufs F c ∗ posns F c (rEnd c) ∗ owns (c : Thread nD τ) oM fullShare (outAt c x) ∗ ow c 0)

/-- The branch of a device that does not add. -/
theorem sound_outer (h : k0_cond3 c = 1#1) (Q : PUnit → sProp 𝕄) :
    iprop(known x K ∗ (all8 fun k => own c hM k fullShare (Hc x c k)) ∗ anyB (F := F) c r1M ∗ anyB (F := F) c pM ∗ anyB (F := F) c r2M
        ∗ anyB (F := F) (yp c) r1M ∗ anyB (F := F) (zc c) zM
        ∗ toksX F c ∗ posns F c (fun _ => 0) ∗ all8 (crd c 5) ∗ all8 (crd c 7)
        ∗ (∃ X : S2048x512.Idx → Elt F .f32, owns (c : Thread nD τ) oM fullShare X) ∗ ow c (O1out c))
      ⊢ iprop((done x c -∗ Q ⟨⟩) -∗ WP c (outer c h) Q) := by
  have hc : isIn c = false := (cond3_iff c).mp h
  have hb : (! isIn c) = true := by rw [hc]; rfl
  unfold posns
  rw [toksX_eq, eight]
  unfold outer
  simp only [wp_seq]
  iintro ⟨#HR, Hh, Hr1, Hp, Hr2, Hyr, Hz, ⟨T0, T1, -, -, -, -, T6, T7⟩, ⟨P0, P1, P2, P3, P4, P5, P6, P7⟩, C5, C7, ⟨%X, Ho⟩, HO⟩ HQ
  ihave Ho' := (split_out c X) $$ Ho
  icases Ho' with ⟨Hof, Hoo⟩
  iapply (out_send x K c hc (tl (fun k => due (zc c) 7 k) allK) _ (dev5_eq c h)) $$ [Hh Hyr T0 T1 HO]
  · isplitr; · iexact HR
    isplitr [HO]
    · isplitl [Hh]; · iexact Hh
      isplitl [Hyr]; · iapply anyB_chunks; iexact Hyr
      isplitl [T0] <;> iassumption
    · iexact HO
  iintro ⟨C0, HO⟩
  iapply (out_pass x K c hc _ (dev13_eq c h) (fun k => k0_off2 c (rowW k)) (off2_at c) (k0_off2_inb c h)) $$ [C5 P5 Hz T6 T7 Hof HO]
  · isplitr; · iexact HR
    isplitr [HO]
    · isplitl [C5]; · iexact C5
      isplitl [P5]; · iexact P5
      isplitl [Hz]; · iapply anyB_chunks; iexact Hz
      isplitl [T6]; · iexact T6
      isplitl [T7] <;> iassumption
    · iexact HO
  iintro ⟨⟨P5, C6, HtL, Hof⟩, HO⟩
  iapply (take_z x K c (fun k => k0_off3 c (rowW k)) (off3_at c) (k0_off3_inb c h)) $$ [C7 P7 Hoo HO]
  · isplitr; · iexact HR
    isplitr [HO]
    · isplitl [C7]; · iexact C7
      isplitl [P7] <;> iassumption
    · iexact HO
  iintro ⟨⟨P7, Hz, Hoo⟩, HO⟩
  iapply (waits_all x K c 0 hb) $$ [C0 P0 HO]
  · isplitr; · iexact HR
    isplitr [HO]
    · isplitl [C0] <;> iassumption
    · iexact HO
  iintro ⟨⟨P0, Hh⟩, HO⟩
  iapply (waits_all x K c 6 rfl) $$ [C6 P6 HO]
  · isplitr; · iexact HR
    isplitr [HO]
    · isplitl [C6] <;> iassumption
    · iexact HO
  iintro ⟨⟨P6, HtR⟩, HO⟩
  iapply HQ
  unfold done bufs posns
  rw [eight]
  isplitl [Hh Hr1 Hp Hr2 HtL HtR Hz]
  · isplitl [Hh]; · iapply (any_all c hM (Hc x c)); iexact Hh
    isplitl [Hr1]; · iexact Hr1
    isplitl [Hp]; · iexact Hp
    isplitl [Hr2]; · iexact Hr2
    isplitl [HtL HtR]
    · iapply (join_all c tM (tt x c))
      isplitl [HtL]; · iexact HtL
      iexact HtR
    · iapply (any_all c zM (tt x (zc c))); iexact Hz
  isplitl [P0 P1 P2 P3 P4 P5 P6 P7]
  · rw [show rEnd c 0 = 1 by simp [rEnd, act, hc], show rEnd c 1 = 0 by simp [rEnd, act, hc], show rEnd c 2 = 0 by simp [rEnd, act, hc],
      show rEnd c 3 = 0 by simp [rEnd, act, hc], show rEnd c 4 = 0 by simp [rEnd, act, hc], show rEnd c 5 = 1 by simp [rEnd, act, hc],
      show rEnd c 6 = 1 by simp [rEnd, act, hc], show rEnd c 7 = 1 by simp [rEnd, act, hc]]
    isplitl [P0]; · iexact P0
    isplitl [P1]; · iexact P1
    isplitl [P2]; · iexact P2
    isplitl [P3]; · iexact P3
    isplitl [P4]; · iexact P4
    isplitl [P5]; · iexact P5
    isplitl [P6] <;> iassumption
  isplitl [Hof Hoo]
  · iapply (join_out c x)
    rw [res_own, res_other]
    simp only [hc, Bool.false_eq_true, if_false]
    isplitl [Hof] <;> iassumption
  · iexact HO

/-- The branch of a device that adds. -/
theorem sound_inner (h : k0_cond4 c = 1#1) (Q : PUnit → sProp 𝕄) :
    iprop(known x K ∗ (all8 fun k => own c hM k fullShare (Hc x c k)) ∗ anyB (F := F) c pM ∗ anyB (F := F) c tM
        ∗ anyB (F := F) (zc c) zM ∗ anyB (F := F) (yp c) tM ∗ anyB (F := F) (ip c) r2M
        ∗ toksX F c ∗ posns F c (fun _ => 0) ∗ all8 (crd c 1) ∗ all8 (crd c 3) ∗ all8 (crd c 7)
        ∗ (∃ X : S2048x512.Idx → Elt F .f32, owns (c : Thread nD τ) oM fullShare X) ∗ ow c (O1in c))
      ⊢ iprop((done x c -∗ Q ⟨⟩) -∗ WP c (inner c h) Q) := by
  have hc : isIn c = true := (cond4_iff c).mp h
  have ha : Above 3 (tl (fun k => due (zc c) 7 k + due (yp c) 5 k) allK) :=
    above_tl (fun k => above_add (above_due _ _ _ (by decide)) (above_due _ _ _ (by decide))) _
  unfold posns
  rw [toksX_eq, eight]
  unfold inner
  simp only [wp_seq]
  iintro ⟨#HR, Hh, Hp, Ht, Hz, Hyt, Hir, ⟨-, -, T2, T3, T4, T5, T6, T7⟩, ⟨P0, P1, P2, P3, P4, P5, P6, P7⟩, C1, C3, C7, ⟨%X, Ho⟩, HO⟩ HQ
  ihave Ho' := (split_out c X) $$ Ho
  icases Ho' with ⟨Hof, Hoo⟩
  iapply (in_add x K c hc _ ha _ (dev21_eq c h)) $$ [C1 P1 Hh Hp Hir T2 T3 HO]
  · isplitr; · iexact HR
    isplitr [HO]
    · isplitl [C1]; · iexact C1
      isplitl [P1]; · iexact P1
      isplitl [Hh]; · iexact Hh
      isplitl [Hp]; · iapply anyB_chunks; iexact Hp
      isplitl [Hir]; · iapply anyB_chunks; iexact Hir
      isplitl [T2] <;> iassumption
    · iexact HO
  iintro ⟨⟨P1, Hh, Hr1, HpL, C2⟩, HO⟩
  iapply (in_total x K c hc _ _ (dev29_eq c h) (dev30_eq c h) (fun k => k0_off4 c (rowW k)) (off4_at c) (k0_off4_inb c h)) $$ [C3 P3 HpL Ht Hyt Hz T4 T5 T6 T7 Hof HO]
  · isplitr; · iexact HR
    isplitr [HO]
    · isplitl [C3]; · iexact C3
      isplitl [P3]; · iexact P3
      isplitl [HpL]; · iexact HpL
      isplitl [Ht]; · iapply anyB_chunks; iexact Ht
      isplitl [Hyt]; · iapply anyB_chunks; iexact Hyt
      isplitl [Hz]; · iapply anyB_chunks; iexact Hz
      isplitl [T4]; · iexact T4
      isplitl [T5]; · iexact T5
      isplitl [T6]; · iexact T6
      isplitl [T7] <;> iassumption
    · iexact HO
  iintro ⟨⟨P3, HpL, Hr2, C4, C6, Hof⟩, HO⟩
  iapply (take_z x K c (fun k => k0_off5 c (rowW k)) (off5_at c) (k0_off5_inb c h)) $$ [C7 P7 Hoo HO]
  · isplitr; · iexact HR
    isplitr [HO]
    · isplitl [C7]; · iexact C7
      isplitl [P7] <;> iassumption
    · iexact HO
  iintro ⟨⟨P7, Hz, Hoo⟩, HO⟩
  iapply (waits_all x K c 2 hc) $$ [C2 P2 HO]
  · isplitr; · iexact HR
    isplitr [HO]
    · isplitl [C2] <;> iassumption
    · iexact HO
  iintro ⟨⟨P2, HpR⟩, HO⟩
  iapply (waits_all x K c 4 hc) $$ [C4 P4 HO]
  · isplitr; · iexact HR
    isplitr [HO]
    · isplitl [C4] <;> iassumption
    · iexact HO
  iintro ⟨⟨P4, HtL⟩, HO⟩
  iapply (waits_all x K c 6 rfl) $$ [C6 P6 HO]
  · isplitr; · iexact HR
    isplitr [HO]
    · isplitl [C6] <;> iassumption
    · iexact HO
  iintro ⟨⟨P6, HtR⟩, HO⟩
  iapply HQ
  unfold done bufs posns
  rw [eight]
  isplitl [Hh Hr1 HpL HpR Hr2 HtL HtR Hz]
  · isplitl [Hh]; · iapply (any_all c hM (Hc x c)); iexact Hh
    isplitl [Hr1]; · iapply (any_all c r1M (Hc x (yp c))); iexact Hr1
    isplitl [HpL HpR]
    · iapply (join_all c pM (Pc x c))
      isplitl [HpL]; · iexact HpL
      iexact HpR
    isplitl [Hr2]; · iapply (any_all c r2M (Pc x (ip c))); iexact Hr2
    isplitl [HtL HtR]
    · iapply (join_all c tM (tt x c))
      isplitl [HtL]; · iexact HtL
      iexact HtR
    · iapply (any_all c zM (tt x (zc c))); iexact Hz
  isplitl [P0 P1 P2 P3 P4 P5 P6 P7]
  · rw [show rEnd c 0 = 0 by simp [rEnd, act, hc], show rEnd c 1 = 1 by simp [rEnd, act, hc], show rEnd c 2 = 1 by simp [rEnd, act, hc],
      show rEnd c 3 = 1 by simp [rEnd, act, hc], show rEnd c 4 = 1 by simp [rEnd, act, hc], show rEnd c 5 = 0 by simp [rEnd, act, hc],
      show rEnd c 6 = 1 by simp [rEnd, act, hc], show rEnd c 7 = 1 by simp [rEnd, act, hc]]
    isplitl [P0]; · iexact P0
    isplitl [P1]; · iexact P1
    isplitl [P2]; · iexact P2
    isplitl [P3]; · iexact P3
    isplitl [P4]; · iexact P4
    isplitl [P5]; · iexact P5
    isplitl [P6] <;> iassumption
  isplitl [Hof Hoo]
  · iapply (join_out c x)
    rw [res_own, res_other]
    simp only [hc, if_true]
    isplitl [Hof] <;> iassumption
  · iexact HO

end Cert.AllReduce
-- ==== Proof.Body.lean ====
/-
The whole body on one device: the raises of the barriers, the wait, the half of `x`, and the branch.
-/
module

public import proofs.«01_k».proof.Proof.Branches

@[expose] public section

noncomputable section

namespace Cert.AllReduce

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (x : Blocks F) (K : Dev nD × J → ℕ) (c : Dev nD)

/-! ## The barrier's duties -/

theorem duty0 : (0 : Fin 3) ∈ (rd x).duties (kcell (zc c) none) 0 := by rw [duties_bar]; cases isIn (zc c) <;> decide
theorem duty1 : (1 : Fin 3) ∈ (rd x).duties (kcell (yp c) none) 0 := by rw [duties_bar]; cases isIn (yp c) <;> decide
theorem duty2 (h : isIn c = true) : (2 : Fin 3) ∈ (rd x).duties (kcell (ip c) none) 0 := by
  rw [duties_bar, isIn_ip, h]; decide

theorem pay0 : payB (F := F) (zc c) 0 = anyB (F := F) c zM := by
  show anyB (F := F) (zc (zc c)) zM = _
  rw [zc_zc]
theorem pay1_in (h : isIn c = true) : payB (F := F) (yp c) 1 = anyB (F := F) c r1M := by
  show (if isIn (yp c) then anyB (F := F) (yp (yp c)) tM else anyB (F := F) (yp (yp c)) r1M) = _
  rw [isIn_yp, h, yp_yp]; rfl
theorem pay1_out (h : isIn c = false) : payB (F := F) (yp c) 1 = anyB (F := F) c tM := by
  show (if isIn (yp c) then anyB (F := F) (yp (yp c)) tM else anyB (F := F) (yp (yp c)) r1M) = _
  rw [isIn_yp, h, yp_yp]; rfl
theorem pay2 : payB (F := F) (ip c) 2 = anyB (F := F) c r2M := by
  show anyB (F := F) (ip (ip c)) r2M = _
  rw [ip_ip]

/-! ## The half of `x` -/

theorem hz : (![0, 0] : Fin 2 → Nat) = fun _ => 0 := funext fun a => by fin_cases a <;> rfl

abbrev wrect : Rect S1024x512 := Rect.unit (s := S1024x512) ![0, 0] S1024x512.size inb_S1024x512_S1024x512_0_0

theorem write_half (f w : (cc0_scratch0 : Ref sig .tc).ty.Contents (Elt F)) :
    ((hM : Memref sig .tc .vmem S1024x512 .bf16).access wrect : View sig .tc _ _ _).write (Elt F) f w Finset.univ = w :=
  Memref.write_access_unit_zero_univ (Elt F) cc0_scratch0 hz _ f w

/-- What a device holds of `x` and of the buffer of its half. -/
theorem wp_half (X : S1024x512.Idx → Elt F .bf16) {h1 h2 h3 h4} (Q : PUnit → sProp 𝕄) :
    iprop(owns (c : Thread nD τ) xM fullShare (x c) ∗ owns (c : Thread nD τ) hM fullShare X)
      ⊢ iprop(((owns (c : Thread nD τ) xM fullShare (x c) ∗ all8 fun k => own c hM k fullShare (Hc x c k)) -∗ Q ⟨⟩)
        -∗ WP c (Prog.lift (.load xM (hrect c).toLoadRect h1)) fun v => WP c (Prog.lift (.load hM wrect.toLoadRect h2)) fun _ =>
            WP c (Prog.lift (.store hM wrect (k0_pay1 v) Finset.univ h3 h4)) Q) := by
  rw [owns_whole, owns_whole]
  unfold Prog.lift
  iintro ⟨Hx, Hh⟩ HQ
  iapply (wp_load 𝒱₀ (c : Thread nD τ) none Set.univ (m := xM) (Finset.subset_univ _)) $$ Hx; iintro Hx
  rw [wp_ret]; imodintro
  iapply (wp_load 𝒱₀ (c : Thread nD τ) none Set.univ (m := hM) (Finset.subset_univ _)) $$ Hh; iintro Hh
  rw [wp_ret]; imodintro
  iapply (wp_store 𝒱₀ (c : Thread nD τ) none Set.univ (m := hM) (r := wrect) (Mk := Finset.univ) (Finset.subset_univ _)) $$ Hh; iintro Hh
  rw [write_half, wp_ret]; imodintro
  iapply HQ
  isplitl [Hx]; · iexact Hx
  iapply (split_buf c hM (halfOf x c))
  rw [owns_whole]
  iexact Hh

/-- A device learns which one it is. -/
theorem wp_device (Q : Dev nD → sProp 𝕄) : Q c ⊢ WP c (Prog.lift .deviceId) Q := by
  unfold Prog.lift WP
  rw [wp_deviceId, wp_ret]
  iintro H; imodintro; iexact H

/-- A program that is done. -/
theorem wp_done {α : Type} (a : α) (Q : α → sProp 𝕄) : iprop(|={Set.univ}=> Q a) ⊢ WP c (pure a) Q :=
  Entails.of_eq (wp_ret _ _ _ a Q).symm

/-! ## The two cases -/

set_option maxHeartbeats 1000000 in
/-- The body of an adding device. -/
theorem sound_in (hc : isIn c = true) (Q : PUnit → sProp 𝕄) :
    iprop(known x K ∗ atPos ER (kcell c none) 0 ∅ 0 ∗ posns F c (fun _ => 0) ∗ tok (zc c) none 0 ∗ tok (yp c) none 1 ∗ tok (ip c) none 2
        ∗ toksX F c ∗ cred (tallyAt (kcell c none) () 3) ∗ all8 (crd c 1) ∗ all8 (crd c 3) ∗ all8 (crd c 7)
        ∗ (∃ X : S1024x512.Idx → Elt F .bf16, owns (c : Thread nD τ) hM fullShare X)
        ∗ anyB (F := F) c r1M ∗ anyB (F := F) c pM ∗ anyB (F := F) c r2M ∗ anyB (F := F) c tM ∗ anyB (F := F) c zM
        ∗ owns (c : Thread nD τ) xM fullShare (x c)
        ∗ (∃ X : S2048x512.Idx → Elt F .f32, owns (c : Thread nD τ) oM fullShare X) ∗ ow c (O₀ c))
      ⊢ iprop(((atPos ER (kcell c none) 1 ∅ 0 ∗ owns (c : Thread nD τ) xM fullShare (x c) ∗ done x c) -∗ |={Set.univ}=> Q ⟨⟩)
        -∗ WP c bodyP Q) := by
  have h1 := (cond1_iff c).mpr hc
  have h2 : ¬ k0_cond2 c = 1#1 := fun h => by have := (cond2_iff c).mp h; rw [hc] at this; cases this
  have h3 : ¬ k0_cond3 c = 1#1 := fun h => by have := (cond3_iff c).mp h; rw [hc] at this; cases this
  have h4 := (cond4_iff c).mpr hc
  unfold bodyP
  rw [k0_part47_eq_skeleton]
  unfold k0_part47_skel
  simp only [wp_seq]
  unfold O₀
  rw [if_pos hc]
  iintro ⟨#HR, HatB, HP, T0, T1, T2, TX, CB, C1, C3, C7, ⟨%X, Hh⟩, Hr1, Hp, Hr2, Ht, Hz, Hx, Ho, HO⟩ HQ
  iapply (wp_device c)
  iapply (wp_raise x K c (zc c) _ (dev1_eq c) 0 (duty0 x c) (O1in c + dueB (ip c) + dueB (yp c))) $$ [Hz HO T0]
  · isplitr; · iexact HR
    isplitl [Hz]; · rw [pay0]; iexact Hz
    isplitl [HO] <;> iassumption
  iintro HO
  rw [dif_pos h1]
  simp only [wp_seq]
  iapply (wp_raise x K c (yp c) _ (dev2_eq c h1) 1 (duty1 x c) (O1in c + dueB (ip c))) $$ [Hr1 HO T1]
  · isplitr; · iexact HR
    isplitl [Hr1]; · rw [pay1_in c hc]; iexact Hr1
    isplitl [HO] <;> iassumption
  iintro HO
  iapply (wp_raise x K c (ip c) _ (dev3_eq c h1) 2 (duty2 x c hc) (O1in c)) $$ [Hr2 HO T2]
  · isplitr; · iexact HR
    isplitl [Hr2]; · rw [pay2]; iexact Hr2
    isplitl [HO] <;> iassumption
  iintro HO
  iapply (wp_barrier x K c 3#32 3 (by decide) (by rw [expect_bar, hc]; rfl) (O1in c) (above_O1in c)) $$ [CB HO HatB]
  · isplitr; · iexact HR
    isplitl [CB]; · iexact CB
    isplitl [HO] <;> iassumption
  iintro ⟨HO, HatB, Hpay⟩
  ihave Hpay := (Entails.of_eq (rest_barIn x c hc)) $$ Hpay
  icases Hpay with ⟨Hz, Hyt, Hir⟩
  iapply (wp_done c)
  imodintro
  dsimp only
  rw [dif_neg h2]
  simp only [wp_seq]
  iapply (wp_half x c X) $$ [Hx Hh]
  · isplitl [Hx] <;> iassumption
  iintro ⟨Hx, Hh⟩
  rw [dif_neg h3, dif_pos h4]
  simp only [wp_seq]
  iapply (sound_inner x K c h4) $$ [Hh Hp Ht Hz Hyt Hir TX HP C1 C3 C7 Ho HO]
  · isplitr; · iexact HR
    isplitl [Hh]; · iexact Hh
    isplitl [Hp]; · iexact Hp
    isplitl [Ht]; · iexact Ht
    isplitl [Hz]; · iexact Hz
    isplitl [Hyt]; · iexact Hyt
    isplitl [Hir]; · iexact Hir
    isplitl [TX]; · iexact TX
    isplitl [HP]; · iexact HP
    isplitl [C1]; · iexact C1
    isplitl [C3]; · iexact C3
    isplitl [C7]; · iexact C7
    isplitl [Ho] <;> iassumption
  iintro Hd
  iapply (wp_done c)
  iapply HQ
  isplitl [HatB]; · iexact HatB
  isplitl [Hx] <;> iassumption

set_option maxHeartbeats 1000000 in
/-- The body of another device. -/
theorem sound_out (hc : isIn c = false) (Q : PUnit → sProp 𝕄) :
    iprop(known x K ∗ atPos ER (kcell c none) 0 ∅ 0 ∗ posns F c (fun _ => 0) ∗ tok (zc c) none 0 ∗ tok (yp c) none 1
        ∗ toksX F c ∗ cred (tallyAt (kcell c none) () 2) ∗ all8 (crd c 5) ∗ all8 (crd c 7)
        ∗ (∃ X : S1024x512.Idx → Elt F .bf16, owns (c : Thread nD τ) hM fullShare X)
        ∗ anyB (F := F) c r1M ∗ anyB (F := F) c pM ∗ anyB (F := F) c r2M ∗ anyB (F := F) c tM ∗ anyB (F := F) c zM
        ∗ owns (c : Thread nD τ) xM fullShare (x c)
        ∗ (∃ X : S2048x512.Idx → Elt F .f32, owns (c : Thread nD τ) oM fullShare X) ∗ ow c (O₀ c))
      ⊢ iprop(((atPos ER (kcell c none) 1 ∅ 0 ∗ owns (c : Thread nD τ) xM fullShare (x c) ∗ done x c) -∗ |={Set.univ}=> Q ⟨⟩)
        -∗ WP c bodyP Q) := by
  have h1 : ¬ k0_cond1 c = 1#1 := fun h => by have := (cond1_iff c).mp h; rw [hc] at this; cases this
  have h2 := (cond2_iff c).mpr hc
  have h3 := (cond3_iff c).mpr hc
  have h4 : ¬ k0_cond4 c = 1#1 := fun h => by have := (cond4_iff c).mp h; rw [hc] at this; cases this
  unfold bodyP
  rw [k0_part47_eq_skeleton]
  unfold k0_part47_skel
  simp only [wp_seq]
  unfold O₀
  rw [if_neg (by rw [hc]; exact Bool.false_ne_true)]
  iintro ⟨#HR, HatB, HP, T0, T1, TX, CB, C5, C7, ⟨%X, Hh⟩, Hr1, Hp, Hr2, Ht, Hz, Hx, Ho, HO⟩ HQ
  iapply (wp_device c)
  iapply (wp_raise x K c (zc c) _ (dev1_eq c) 0 (duty0 x c) (O1out c + dueB (yp c))) $$ [Hz HO T0]
  · isplitr; · iexact HR
    isplitl [Hz]; · rw [pay0]; iexact Hz
    isplitl [HO] <;> iassumption
  iintro HO
  rw [dif_neg h1]
  iapply (wp_done c)
  imodintro
  dsimp only
  rw [dif_pos h2]
  simp only [wp_seq]
  iapply (wp_raise x K c (yp c) _ (dev4_eq c h2) 1 (duty1 x c) (O1out c)) $$ [Ht HO T1]
  · isplitr; · iexact HR
    isplitl [Ht]; · rw [pay1_out c hc]; iexact Ht
    isplitl [HO] <;> iassumption
  iintro HO
  iapply (wp_barrier x K c 2#32 2 (by decide) (by rw [expect_bar, hc]; rfl) (O1out c) (above_O1out c)) $$ [CB HO HatB]
  · isplitr; · iexact HR
    isplitl [CB]; · iexact CB
    isplitl [HO] <;> iassumption
  iintro ⟨HO, HatB, Hpay⟩
  ihave Hpay := (Entails.of_eq (rest_barOut x c hc)) $$ Hpay
  icases Hpay with ⟨Hz, Hyr⟩
  iapply (wp_half x c X) $$ [Hx Hh]
  · isplitl [Hx] <;> iassumption
  iintro ⟨Hx, Hh⟩
  rw [dif_pos h3]
  simp only [wp_seq]
  iapply (sound_outer x K c h3) $$ [Hh Hr1 Hp Hr2 Hyr Hz TX HP C5 C7 Ho HO]
  · isplitr; · iexact HR
    isplitl [Hh]; · iexact Hh
    isplitl [Hr1]; · iexact Hr1
    isplitl [Hp]; · iexact Hp
    isplitl [Hr2]; · iexact Hr2
    isplitl [Hyr]; · iexact Hyr
    isplitl [Hz]; · iexact Hz
    isplitl [TX]; · iexact TX
    isplitl [HP]; · iexact HP
    isplitl [C5]; · iexact C5
    isplitl [C7]; · iexact C7
    isplitl [Ho] <;> iassumption
  iintro Hd
  rw [dif_neg h4]
  iapply (wp_done c)
  iapply HQ
  isplitl [HatB]; · iexact HatB
  isplitl [Hx] <;> iassumption

end Cert.AllReduce
-- ==== Proof.Point.lean ====
/-
The launch's set-up: what a device holds before the body and after it, and that the body takes the one to the other.
-/
module

public import proofs.«01_k».proof.Proof.Body

@[expose] public section

noncomputable section

namespace Cert.AllReduce

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

section Knowledge
variable (x : Blocks F) (K : Dev nD × J → ℕ) (c : Dev nD)

/-- What every device knows of the cells. -/
def cellsKnown : sProp 𝕄 :=
  iprop((bigSep Finset.univ fun cj : Dev nD × J => cellInv ER (rd x) (K cj) (kcell cj.1 cj.2))
    ∗ bigSep Finset.univ fun cj : Dev nD × J => reached ER (kcell cj.1 cj.2) 0)

instance cellsKnown_persistent : BI.Persistent (cellsKnown x K) := by unfold cellsKnown; infer_instance

theorem known_intro : iprop(cellsKnown x K ∗ lvls F) ⊢ known x K := by
  unfold cellsKnown known
  iintro ⟨⟨H1, H2⟩, H3⟩
  isplitl [H1]; · iexact H1
  isplitl [H2] <;> iassumption

variable (F) in
/-- The tokens of the raises and copies a device makes. -/
def payToks : sProp 𝕄 :=
  iprop(tok (F := F) (zc c) none 0 ∗ tok (F := F) (yp c) none 1 ∗ tok (F := F) (ip c) none 2 ∗ toksX F c)

variable (F) in
/-- What is a device's alone: its positions and its tokens. -/
def mine : sProp 𝕄 := iprop((atPos (ER (F := F)) (kcell c none) 0 ∅ 0 ∗ posns F c (fun _ => 0)) ∗ payToks F c)

variable (F) in
/-- The credits of what a device waits for and others owe it. -/
def creds : sProp 𝕄 :=
  if isIn c then iprop(cred (tallyAt (kcell c none) () 3) ∗ all8 (crd (F := F) c 1) ∗ all8 (crd (F := F) c 3) ∗ all8 (crd (F := F) c 7))
  else iprop(cred (tallyAt (kcell c none) () 2) ∗ all8 (crd (F := F) c 5) ∗ all8 (crd (F := F) c 7))

/-- What a device starts with. -/
def start : sProp 𝕄 := iprop((∃ K, cellsKnown x K ∗ mine F c) ∗ creds F c ∗ lvls F)

variable (F) in
/-- The kernel's own semaphores at zero. -/
def ownZero : sProp 𝕄 := bigSep Finset.univ fun a : Fin 8 => all8 fun k => (semVal (kcell c (some (a, k))) 0 : sProp 𝕄)

/-- What a device's scratch buffers are, held whole. -/
theorem scratch_eq : (Pipeline.scopedRest (Ix := Unit) (Name := ℕ) (U := UU) (Lvl := ℕ) (Val := Elt F) spec0 c : sProp 𝕄)
    = iprop((∃ X : S1024x512.Idx → Elt F .bf16, owns (c : Thread nD τ) hM fullShare X) ∗ (∃ X : S1024x512.Idx → Elt F .bf16, owns (c : Thread nD τ) r1M fullShare X)
      ∗ (∃ X : S1024x512.Idx → Elt F .bf16, owns (c : Thread nD τ) pM fullShare X) ∗ (∃ X : S1024x512.Idx → Elt F .bf16, owns (c : Thread nD τ) r2M fullShare X)
      ∗ (∃ X : S1024x512.Idx → Elt F .bf16, owns (c : Thread nD τ) tM fullShare X) ∗ (∃ X : S1024x512.Idx → Elt F .bf16, owns (c : Thread nD τ) zM fullShare X)) := by
  rw [scopedRest0_eq]
  simp only [owns_whole]
  rfl

theorem any_in (M : SBuf) : (iprop(∃ X : S1024x512.Idx → Elt F .bf16, owns (c : Thread nD τ) M fullShare X) : sProp 𝕄) ⊢ anyB (F := F) c M := by
  iintro ⟨%X, H⟩; iapply (split_any c M X); iexact H

theorem scratch_of_bufs : bufs (F := F) c ⊢ Pipeline.scopedRest (Ix := Unit) (Name := ℕ) (U := UU) (Lvl := ℕ) (Val := Elt F) spec0 c := by
  rw [scratch_eq]
  unfold bufs
  iintro ⟨H1, H2, H3, H4, H5, H6⟩
  isplitl [H1]; · iapply (join_any c hM); iexact H1
  isplitl [H2]; · iapply (join_any c r1M); iexact H2
  isplitl [H3]; · iapply (join_any c pM); iexact H3
  isplitl [H4]; · iapply (join_any c r2M); iexact H4
  isplitl [H5]; · iapply (join_any c tM); iexact H5
  iapply (join_any c zM); iexact H6

/-- All arrays of semaphores closed. -/
theorem close_all : iprop(known x K ∗ posns F c (rEnd c)) ⊢ |={Set.univ}=> ownZero F c := by
  unfold posns ownZero
  refine (bigSep_with_persistent (R := known x K) (Ψ := fun a => iprop(|={Set.univ}=> all8 fun k => (semVal (kcell c (some (a, k))) 0 : sProp 𝕄))) fun a _ => ?_).trans (bigSep_fupd _ _)
  refine close_x x K c a (rEnd c a) ?_
  unfold rEnd
  cases h : act c a
  · exact Or.inr rfl
  · exact Or.inl rfl

end Knowledge

/-! ## The body of the pipeline -/

variable (m : (ℓ : Loc nD τ sig) → Buf (Elt F) ℓ) (ρ : Dev nD → PrngReg)

/-- The memory at launch. -/
def s₀ : MemSt nD τ sig (Elt F) := ⟨m, fun _ => 0, ρ⟩

/-- Every device's block of `x`. -/
def xb : Blocks F := fun c => (win0_0.blk (0 : Fin 1)).view.read (Elt F) ((s₀ m ρ).mem ((c : Thread nD τ).loc main_arg0))

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

def Φ₀ (c : Dev nD) : sProp 𝕄 :=
  iprop(start (xb m ρ) c ∗ Pipeline.scopedRest (Ix := Unit) (Name := ℕ) (U := UU) (Lvl := ℕ) (Val := Elt F) spec0 c)
variable (F) in
def Φ₁ (c : Dev nD) : sProp 𝕄 :=
  iprop((semVal (kcell c none) 0 : sProp 𝕄) ∗ ownZero F c ∗ Pipeline.scopedRest (Ix := Unit) (Name := ℕ) (U := UU) (Lvl := ℕ) (Val := Elt F) spec0 c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xb m ρ c
    | ⟨1, _⟩ => outAt c (xb m ρ)
  Φ t := match t with
    | ⟨0, _⟩ => Φ₀ m ρ c
    | ⟨_ + 1, _⟩ => Φ₁ F c
  q _ := fullShare
  owed t := match t with
    | ⟨0, _⟩ => O₀ c
    | ⟨_ + 1, _⟩ => 0

theorem bigSep_W (Φ : Fin cfg0.W → sProp 𝕄) : bigSep Finset.univ Φ = iprop(Φ (0 : Fin 2) ∗ Φ (1 : Fin 2)) := bigSep_W0 Φ

theorem fetch_0 (t : Fin cfg0.N) : (cfg0.win (0 : Fin 2)).fetch t = true := by rw [fin_N t]; rfl

theorem ow_of_owesAt (c : Dev nD) : (dats m ρ 0 c).owesAt () t₀.castSucc ⊢ ow c (O₀ c) := by
  unfold Dat.owesAt Pipeline.owesWithin ow
  rw [show (dats m ρ 0 c).owed t₀.castSucc = O₀ c from rfl]
  iintro ⟨%W, -, H⟩
  iexists W; iexact H

theorem owesAt_of_ow (c : Dev nD) : ow (F := F) c 0 ⊢ (dats m ρ 0 c).owesAt () t₀.succ := by
  unfold Dat.owesAt Pipeline.owesWithin ow
  rw [show (dats m ρ 0 c).owed t₀.succ = 0 from rfl]
  iintro ⟨%W, H⟩
  iexists W
  isplitr; · ipureintro; exact fun _ _ => Or.inl trivial
  iexact H

def bodyPre (c : Dev nD) : sProp 𝕄 :=
  iprop(Φ₀ m ρ c ∗ (dats m ρ 0 c).owesAt () t₀.castSucc
    ∗ (∃ d, owns (c : Thread nD τ) xM fullShare ((dats m ρ 0 c).before (0 : Fin 2) t₀ d))
    ∗ (∃ d, owns (c : Thread nD τ) oM fullShare ((dats m ρ 0 c).before (1 : Fin 2) t₀ d)))

def bodyPost (c : Dev nD) : sProp 𝕄 :=
  iprop(Φ₁ F c ∗ (dats m ρ 0 c).owesAt () t₀.succ ∗ owns (c : Thread nD τ) xM fullShare (xb m ρ c) ∗ owns (c : Thread nD τ) oM fullShare (outAt c (xb m ρ)))

/-- What a finished device's body leaves. -/
theorem finish (K : Dev nD × J → ℕ) (c : Dev nD) :
    iprop(known (xb m ρ) K ∗ atPos ER (kcell c none) 1 ∅ 0 ∗ owns (c : Thread nD τ) xM fullShare (xb m ρ c) ∗ done (xb m ρ) c)
      ⊢ |={Set.univ}=> bodyPost m ρ c := by
  unfold done
  iintro ⟨#HR, HB, Hx, Hb, HP, Ho, HO⟩
  imod (close_bar (xb m ρ) K c) $$ [HB] with HzB
  · isplitr; · iexact HR
    iexact HB
  imod (close_all (xb m ρ) K c) $$ [HP] with Hz
  · isplitr; · iexact HR
    iexact HP
  imodintro
  unfold bodyPost Φ₁
  isplitl [HzB Hz Hb]
  · isplitl [HzB]; · iexact HzB
    isplitl [Hz]; · iexact Hz
    iapply (scratch_of_bufs c); iexact Hb
  isplitl [HO]; · iapply (owesAt_of_ow m ρ c); iexact HO
  isplitl [Hx] <;> iassumption

theorem sound_point (c : Dev nD) : bodyPre m ρ c ⊢ WP c bodyP (fun _ => bodyPost m ρ c) := by
  unfold bodyPre Φ₀ start mine payToks
  rw [scratch_eq]
  iintro ⟨⟨⟨⟨%K, Hk, ⟨HB, HP⟩, T0, T1, T2, TX⟩, HC, Hl⟩, Hh, Hr1, Hp, Hr2, Ht, Hz⟩, HO, ⟨%d0, Hx⟩, ⟨%d1, Ho⟩⟩
  ihave #HR := (known_intro (xb m ρ) K) $$ [Hk Hl]
  · isplitl [Hk] <;> iassumption
  ihave Hx := (Entails.of_eq (show (owns (c : Thread nD τ) xM fullShare ((dats m ρ 0 c).before (0 : Fin 2) t₀ d0) : sProp 𝕄) = owns (c : Thread nD τ) xM fullShare (xb m ρ c) from by
    unfold Dat.before; rw [if_pos (fetch_0 t₀)]; rfl)) $$ Hx
  ihave HO := (ow_of_owesAt m ρ c) $$ HO
  ihave Hr1 := (any_in c r1M) $$ Hr1
  ihave Hp := (any_in c pM) $$ Hp
  ihave Hr2 := (any_in c r2M) $$ Hr2
  ihave Ht := (any_in c tM) $$ Ht
  ihave Hz := (any_in c zM) $$ Hz
  rcases Bool.eq_false_or_eq_true (isIn c) with hc | hc
  rotate_left
  · ihave HC := (Entails.of_eq (show creds F c = _ from if_neg (by rw [hc]; exact Bool.false_ne_true))) $$ HC
    icases HC with ⟨CB, C5, C7⟩
    iapply (sound_out (xb m ρ) K c hc) $$ [HB HP T0 T1 TX CB C5 C7 Hh Hr1 Hp Hr2 Ht Hz Hx Ho HO]
    · isplitr; · iexact HR
      isplitl [HB]; · iexact HB
      isplitl [HP]; · iexact HP
      isplitl [T0]; · iexact T0
      isplitl [T1]; · iexact T1
      isplitl [TX]; · iexact TX
      isplitl [CB]; · iexact CB
      isplitl [C5]; · iexact C5
      isplitl [C7]; · iexact C7
      isplitl [Hh]; · iexact Hh
      isplitl [Hr1]; · iexact Hr1
      isplitl [Hp]; · iexact Hp
      isplitl [Hr2]; · iexact Hr2
      isplitl [Ht]; · iexact Ht
      isplitl [Hz]; · iexact Hz
      isplitl [Hx]; · iexact Hx
      isplitl [Ho]; · iexists _; iexact Ho
      iexact HO
    · iintro ⟨HB, Hx, Hd⟩
      iapply (finish m ρ K c)
      isplitr; · iexact HR
      isplitl [HB]; · iexact HB
      isplitl [Hx] <;> iassumption
  · ihave HC := (Entails.of_eq (show creds F c = _ from if_pos hc)) $$ HC
    icases HC with ⟨CB, C1, C3, C7⟩
    iapply (sound_in (xb m ρ) K c hc) $$ [HB HP T0 T1 T2 TX CB C1 C3 C7 Hh Hr1 Hp Hr2 Ht Hz Hx Ho HO]
    · isplitr; · iexact HR
      isplitl [HB]; · iexact HB
      isplitl [HP]; · iexact HP
      isplitl [T0]; · iexact T0
      isplitl [T1]; · iexact T1
      isplitl [T2]; · iexact T2
      isplitl [TX]; · iexact TX
      isplitl [CB]; · iexact CB
      isplitl [C1]; · iexact C1
      isplitl [C3]; · iexact C3
      isplitl [C7]; · iexact C7
      isplitl [Hh]; · iexact Hh
      isplitl [Hr1]; · iexact Hr1
      isplitl [Hp]; · iexact Hp
      isplitl [Hr2]; · iexact Hr2
      isplitl [Ht]; · iexact Ht
      isplitl [Hz]; · iexact Hz
      isplitl [Hx]; · iexact Hx
      isplitl [Ho]; · iexists _; iexact Ho
      iexact HO
    · iintro ⟨HB, Hx, Hd⟩
      iapply (finish m ρ K c)
      isplitr; · iexact HR
      isplitl [HB]; · iexact HB
      isplitl [Hx] <;> iassumption

set_option maxRecDepth 4000 in
/-- The pipeline's body obligation. -/
theorem body_obligation (c : Dev nD) : BodyObligation (dats (F := F) m ρ 0 c) (defs₀ (F := F)) 𝒱₀ () Set.univ := fun t => by
  rw [fin_N t]
  rw [bigSep_W, bigSep_W]
  show bodyPre m ρ c ⊢ wp frame (wpE (defs₀ (F := F)) 𝒱₀ c none) Set.univ
    (cc0_body (F := F) xM (Memref.isWhole_whole _) oM (Memref.isWhole_whole _) hM (Memref.isWhole_whole _) r1M (Memref.isWhole_whole _)
      pM (Memref.isWhole_whole _) r2M (Memref.isWhole_whole _) tM (Memref.isWhole_whole _) zM (Memref.isWhole_whole _)
      s1s r1s s2s r2s s3s r3s szs rzs) (fun _ => bodyPost m ρ c)
  rw [body_eq]
  exact sound_point m ρ c

end Cert.AllReduce
-- ==== Proof.Deal.lean ====
/-
What the launch deals: tokens to those who raise, credits to those who wait.
-/
module

public import proofs.«01_k».proof.Proof.Point

@[expose] public section

noncomputable section

namespace Cert.AllReduce

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- Over all of a device's semaphores: the barrier and the eight arrays. -/
theorem over_J (A : J → sProp 𝕄) : bigSep Finset.univ A = iprop((bigSep Finset.univ fun a : Fin 8 => all8 fun k => A (some (a, k))) ∗ A none) := by
  rw [bigSep_univ_equiv (Equiv.optionEquivSumPUnit.{0, 0} (Fin 8 × Fin 8)).symm A, bigSep_univ_sum, bigSep_univ_of_subsingleton PUnit.unit,
    bigSep_univ_prod]
  rfl

/-! ## Tokens -/

variable (F) in
/-- The tokens of a device's own cells. -/
def toks (c : Dev nD) : sProp 𝕄 := bigSep Finset.univ fun j : J => bigSep Finset.univ fun d : Fin 3 => tok (F := F) c j d

theorem three (A : Fin 3 → sProp 𝕄) : bigSep Finset.univ A = iprop(A 0 ∗ A 1 ∗ A 2) :=
  bigSep_univ_eq_bigSepL [0, 1, 2] (by decide) (by decide) A

/-- Each array's tokens, and the barrier's. -/
theorem toks_split (c : Dev nD) : toks F c
    ⊢ iprop((bigSep Finset.univ fun a : Fin 8 => all8 fun k => tok (F := F) c (some (a, k)) 0) ∗ tok c none 0 ∗ tok c none 1 ∗ tok c none 2) := by
  unfold toks
  rw [over_J, three]
  refine sep_mono_left (bigSep_mono fun a _ => bigSep_mono fun k _ => ?_)
  exact bigSep_elim (Finset.mem_univ 0)

theorem peer_peer : ∀ (a : Fin 8) (c : Dev nD), peer a (peer a c) = c
  | 0, c => rfl
  | 1, c => yp_yp c
  | 2, c => rfl
  | 3, c => ip_ip c
  | 4, c => rfl
  | 5, c => yp_yp c
  | 6, c => rfl
  | 7, c => zc_zc c

theorem last_of_first (X A B C : sProp 𝕄) : iprop(X ∗ A ∗ B ∗ C) ⊢ iprop(A ∗ B ∗ C ∗ X) := by
  iintro ⟨HX, HA, HB, HC⟩
  isplitl [HA]; · iexact HA
  isplitl [HB]; · iexact HB
  isplitl [HC] <;> iassumption

/-- Dealt to the devices that raise with them. -/
theorem toks_deal : (bigSep Finset.univ fun c : Dev nD => toks F c) ⊢ bigSep Finset.univ fun c : Dev nD => payToks F c := by
  refine (bigSep_mono fun c _ => toks_split c).trans ?_
  have hX : (bigSep Finset.univ fun c : Dev nD => bigSep Finset.univ fun a : Fin 8 => all8 fun k => (tok (F := F) c (some (a, k)) 0 : sProp 𝕄))
      = bigSep Finset.univ fun c : Dev nD => toksX F c := by
    unfold toksX
    rw [bigSep_univ_comm, bigSep_univ_comm (fun (c : Dev nD) (a : Fin 8) => all8 fun k => (tok (F := F) (peer a c) (some (a, k)) 0 : sProp 𝕄))]
    exact bigSep_congr fun a _ => bigSep_univ_equiv (inv (peer a) (peer_peer a)) (fun c => all8 fun k => (tok (F := F) c (some (a, k)) 0 : sProp 𝕄))
  unfold payToks
  rw [bigSep_sep', bigSep_sep', bigSep_sep', bigSep_sep', bigSep_sep', bigSep_sep', hX,
    bigSep_univ_equiv (inv zc zc_zc) (fun c : Dev nD => (tok (F := F) c none 0 : sProp 𝕄)),
    bigSep_univ_equiv (inv yp yp_yp) (fun c : Dev nD => (tok (F := F) c none 1 : sProp 𝕄)),
    bigSep_univ_equiv (inv ip ip_ip) (fun c : Dev nD => (tok (F := F) c none 2 : sProp 𝕄))]
  exact last_of_first _ _ _ _

/-! ## Credits -/

theorem tl_eq (f : Fin 8 → CellTallies nD τ sig Unit) : tl f allK = ∑ k, f k := by
  rw [Fin.sum_univ_eight]
  simp only [tl, zero_add]
  ac_rfl

theorem tl_add (f g : Fin 8 → CellTallies nD τ sig Unit) : tl (fun k => f k + g k) allK = tl f allK + tl g allK := by
  rw [tl_eq, tl_eq, tl_eq, Finset.sum_add_distrib]

/-- What a device's `z` neighbour owes it, -/
def owedZ (e : Dev nD) : CellTallies nD τ sig Unit := tl (due e 7) allK + dueB e
/-- its `y` partner, -/
def owedY (e : Dev nD) : CellTallies nD τ sig Unit := dueB e + if isIn e then tl (due e 1) allK else tl (due e 5) allK
/-- and the device at `3 - y`. -/
def owedI (e : Dev nD) : CellTallies nD τ sig Unit := if isIn e then tl (due e 3) allK + dueB e else 0

theorem O₀_eq (d : Dev nD) : O₀ d = owedZ (zc d) + owedY (yp d) + owedI (ip d) := by
  unfold O₀ owedZ owedY owedI O1in O1out
  rw [isIn_yp, isIn_ip]
  rcases Bool.eq_false_or_eq_true (isIn d) with h | h
  · simp only [h, if_true, Bool.not_true, Bool.false_eq_true, if_false, tl_add (due (zc d) 7) (due (yp d) 5), show (fun k => due (ip d) 3 k) = due (ip d) 3 from rfl]
    ac_rfl
  · simp only [h, if_true, Bool.not_false, Bool.false_eq_true, if_false, add_zero]
    ac_rfl

/-- All that others owe a device. -/
def owedTo (e : Dev nD) : CellTallies nD τ sig Unit := owedZ e + owedY e + owedI e

theorem sum_owed : (∑ d, O₀ d) = ∑ d, owedTo d := by
  unfold owedTo
  rw [Finset.sum_congr rfl fun d _ => O₀_eq d]
  simp only [Finset.sum_add_distrib]
  exact congrArg₂ (· + ·) (congrArg₂ (· + ·) (Equiv.sum_comp (inv zc zc_zc) owedZ) (Equiv.sum_comp (inv yp yp_yp) owedY))
    (Equiv.sum_comp (inv ip ip_ip) owedI)

/-- Everything owed in `O` is on cells of device `d`. -/
def At (d : Dev nD) (O : CellTallies nD τ sig Unit) : Prop := ∀ g, O g ≠ 0 → g.1 = (d.tc : Thread nD τ)

theorem at_zero (d : Dev nD) : At d 0 := fun g h => absurd rfl h
theorem at_add {d : Dev nD} {O D : CellTallies nD τ sig Unit} (h : At d O) (h' : At d D) : At d (O + D) := fun g hg => by
  by_contra hn
  refine hg ?_
  rw [Pi.add_apply, not_not.mp fun e => hn (h g e), not_not.mp fun e => hn (h' g e), add_zero]
theorem at_tally (d : Dev nD) (s : SemLoc sig) (n : ℕ) : At d (tallyAt ((d : Thread nD τ), s) () n) := fun g hg => by
  by_contra hn
  exact hg (tallyAt_ne_cell (fun e => hn (congrArg Prod.fst e)) () n)
theorem at_tl {d : Dev nD} {f : Fin 8 → CellTallies nD τ sig Unit} (h : ∀ k, At d (f k)) : ∀ ks, At d (tl f ks)
  | [] => at_zero d
  | k :: ks => at_add (at_tl h ks) (h k)
theorem at_owedTo (d : Dev nD) : At d (owedTo d) := by
  unfold owedTo owedZ owedY owedI
  refine at_add (at_add (at_add (at_tl (fun k => at_tally _ _ _) _) (at_tally _ _ _)) (at_add (at_tally _ _ _) ?_)) ?_
  · split <;> exact at_tl (fun k => at_tally _ _ _) _
  · split
    · exact at_add (at_tl (fun k => at_tally _ _ _) _) (at_tally _ _ _)
    · exact at_zero d

theorem cred_plus (S T : CellTallies nD τ sig Unit) : (cred (S + T) : sProp 𝕄) = iprop(cred S ∗ cred T) :=
  BI.Entails.antisymm (cred_add _ _).1 (cred_add _ _).2

theorem cred_tl (f : Fin 8 → CellTallies nD τ sig Unit) : (cred (tl f allK) : sProp 𝕄) = all8 fun k => cred (f k) := by
  rw [tl_eq]; exact Pipeline.cred_finsetSum Finset.univ f

/-- The credits the launch deals a device. -/
theorem creds_deal (c : Dev nD) : (Pipeline.launchCred O₀ c : sProp 𝕄) ⊢ creds F c := by
  rw [Pipeline.launchCred_of_sum O₀ owedTo sum_owed at_owedTo]
  unfold owedTo owedZ owedY owedI creds
  rcases Bool.eq_false_or_eq_true (isIn c) with h | h
  · simp only [h, if_true]
    rw [show tl (due c 7) allK + dueB c + (dueB c + tl (due c 1) allK) + (tl (due c 3) allK + dueB c)
        = tallyAt (kcell c none) () 3 + (tl (due c 1) allK + (tl (due c 3) allK + tl (due c 7) allK)) from by
      unfold dueB; rw [show (3 : ℕ) = 1 + 1 + 1 from rfl, ← tallyAt_add, ← tallyAt_add]; ac_rfl,
      cred_plus, cred_plus, cred_plus, cred_tl, cred_tl, cred_tl]
  · simp only [h, Bool.false_eq_true, if_false]
    rw [show tl (due c 7) allK + dueB c + (dueB c + tl (due c 5) allK) + 0
        = tallyAt (kcell c none) () 2 + (tl (due c 5) allK + tl (due c 7) allK) from by
      unfold dueB; rw [show (2 : ℕ) = 1 + 1 from rfl, ← tallyAt_add, add_zero]; ac_rfl,
      cred_plus, cred_plus, cred_tl, cred_tl]

end Cert.AllReduce
-- ==== Proof.Launch.lean ====
/-
The launch: every device's cells, tokens and credits are dealt, and the run ends as the body says.
-/
module

public import proofs.«01_k».proof.Proof.Deal
public import Idealize.ShloMosaic.Lib.Pipeline.CollectiveSegs

@[expose] public section

noncomputable section

namespace Cert.AllReduce

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem own_injective : Function.Injective osem := fun p q h => Option.some.inj (csem_injective (a₁ := some p) (a₂ := some q) h)

theorem own_facts : Pipeline.OwnSemFacts cfg0.spec osem where
  isScoped := by decide +kernel
  inj := own_injective
  disj := by decide +kernel

theorem share_full (c : Dev nD) (w : Fin cfg0.W) : (dats m ρ 0 c).share w = fullShare := by unfold Dat.share; split <;> rfl

/-! ## What is minted -/

theorem kcell_pair : Function.Injective (fun cj : Dev nD × J => kcell cj.1 cj.2) := fun a b h =>
  Prod.ext (kcell_inj h).1 (kcell_inj h).2
/-- All cells of the protocol. -/
def allCells : Finset (GSem nD τ sig) := Finset.univ.map ⟨_, kcell_pair⟩

theorem mint_inj : Function.Injective (fun x : (Dev nD × J) × Fin 3 => ((kcell x.1.1 x.1.2, 0, x.2) : GSem nD τ sig × ℕ × Fin 3)) := fun a b h =>
  Prod.ext (kcell_pair (congrArg Prod.fst h)) (congrArg (fun y : GSem nD τ sig × ℕ × Fin 3 => y.2.2) h)
/-- All tokens. -/
def allToks : Finset (GSem nD τ sig × ℕ × Fin 3) := Finset.univ.map ⟨_, mint_inj⟩

def u₀ : UU := (initOf (Pipeline.cells cfgs cellOf_inj) (Pipeline.launchToks cfgs cellOf_inj), initOf allCells allToks)

/-- A device's share of what is minted. -/
def G (c : Dev nD) : sProp 𝕄 :=
  iprop((bigSep Finset.univ fun j : J => roundState ER (rd (xb m ρ)) (kcell c j) 0)
    ∗ (bigSep Finset.univ fun j : J => atPos ER (kcell c j) 0 ∅ 0) ∗ (bigSep Finset.univ fun j : J => reached ER (kcell c j) 0) ∗ toks F c)

/-- What the devices make of their shares together. -/
def G' (c : Dev nD) : sProp 𝕄 := iprop(∃ K, cellsKnown (xb m ρ) K ∗ mine F c)

theorem over_cells (Φ : GSem nD τ sig → sProp 𝕄) : bigSep allCells Φ = bigSep Finset.univ fun c : Dev nD => bigSep Finset.univ fun j : J => Φ (kcell c j) := by
  unfold allCells; rw [bigSep_map, bigSep_univ_prod]; rfl

theorem over_toks : bigSep allToks (fun y => (dutyTok ER y.1 y.2.1 y.2.2 : sProp 𝕄)) = bigSep Finset.univ fun c : Dev nD => toks F c := by
  unfold allToks; rw [bigSep_map, bigSep_univ_prod, bigSep_univ_prod]; rfl

theorem mint : BI.own (ER (F := F) (initOf allCells allToks)) ⊢ (|==> bigSep Finset.univ (G m ρ) : sProp 𝕄) := by
  iintro HX
  imod (Rounds.fund ER (rd (xb m ρ)) allCells allToks) $$ HX with ⟨Hst, Hr, Hat, Htok⟩
  imodintro
  ihave Hst := (Entails.of_eq (over_cells fun g => roundState ER (rd (xb m ρ)) g 0)) $$ Hst
  ihave Hat := (Entails.of_eq (over_cells fun g => atPos ER g 0 ∅ 0)) $$ Hat
  ihave Hr := (Entails.of_eq (over_cells fun g => reached ER g 0)) $$ Hr
  ihave Htok := (Entails.of_eq over_toks) $$ Htok
  unfold G; simp only [bigSep_sep']
  isplitl [Hst]; · iexact Hst
  isplitl [Hat]; · iexact Hat
  isplitl [Hr] <;> iassumption

/-! ## The cells are set up -/

theorem own_zero (c : Dev nD) : (Pipeline.ownSems0 (Ix := Unit) (Name := ℕ) (U := UU) (Lvl := ℕ) (Val := Elt F) (τ := τ) osem c : sProp 𝕄) = ownZero F c := by
  unfold Pipeline.ownSems0 ownZero
  rw [bigSep_univ_prod]

theorem bar_zero (c : Dev nD) : (unscopedSems0 c : sProp 𝕄) = semVal (kcell c none) 0 := by
  unfold unscopedSems0; rw [bigSep_eq_bigSepL_of_eq [SemLoc.reg barS] (by decide +kernel) (by decide)]; rfl

theorem sems_zero (c : Dev nD) :
    iprop(Pipeline.ownSems0 (Ix := Unit) (Name := ℕ) (U := UU) (Lvl := ℕ) (Val := Elt F) (τ := τ) osem c ∗ unscopedSems0 c)
      = (bigSep Finset.univ fun j : J => semVal (kcell c j) 0 : sProp 𝕄) := by
  rw [own_zero, bar_zero, over_J, ownZero]

theorem set_up (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun j : J => iprop(∃ κ : ℕ, cellInv ER (rd (xb m ρ)) κ (kcell c j)))
          ∗ (bigSep Finset.univ fun j : J => atPos ER (kcell c j) 0 ∅ 0) ∗ (bigSep Finset.univ fun j : J => reached ER (kcell c j) 0) ∗ toks F c) := by
  unfold G
  iintro ⟨Hos, Hus, Hst, Hat, Hr, Htok⟩
  ihave Hv := (Entails.of_eq (sems_zero (F := F) c)) $$ [Hos Hus]
  · isplitl [Hos] <;> iassumption
  imod (show iprop((bigSep Finset.univ fun j : J => semVal (kcell c j) 0) ∗ bigSep Finset.univ fun j : J => roundState ER (rd (xb m ρ)) (kcell c j) 0)
      ⊢ (|={Set.univ}=> bigSep Finset.univ fun j : J => iprop(∃ κ : ℕ, cellInv ER (rd (xb m ρ)) κ (kcell c j)) : sProp 𝕄) from by
        rw [← bigSep_sep']
        exact (bigSep_mono fun j _ => (Rounds.body_intro ER (rd (xb m ρ)) (kcell c j)).trans inv_alloc).trans (bigSep_fupd _ _)) $$ [Hv Hst] with Hinv
  · isplitl [Hv] <;> iassumption
  imodintro
  isplitl [Hinv]; · iexact Hinv
  isplitl [Hat]; · iexact Hat
  isplitl [Hr] <;> iassumption

theorem positions (c : Dev nD) : (bigSep Finset.univ fun j : J => (atPos ER (kcell c j) 0 ∅ 0 : sProp 𝕄))
    = iprop((posns F c fun _ => 0) ∗ atPos ER (kcell c none) 0 ∅ 0) := by
  rw [over_J]; rfl

theorem reorder (A B C : sProp 𝕄) : iprop((A ∗ B) ∗ C) ⊢ iprop((B ∗ A) ∗ C) := by
  iintro ⟨⟨HA, HB⟩, HC⟩
  isplitr [HC]
  · isplitl [HB] <;> iassumption
  iexact HC

theorem share_out :
    (bigSep Finset.univ fun c : Dev nD => iprop((bigSep Finset.univ fun j : J => iprop(∃ κ : ℕ, cellInv ER (rd (xb m ρ)) κ (kcell c j)))
          ∗ (bigSep Finset.univ fun j : J => atPos ER (kcell c j) 0 ∅ 0) ∗ (bigSep Finset.univ fun j : J => reached ER (kcell c j) 0) ∗ toks F c) : sProp 𝕄)
      ⊢ bigSep Finset.univ (G' m ρ) := by
  rw [bigSep_sep', bigSep_sep', bigSep_sep', ← bigSep_univ_prod (fun cj : Dev nD × J => iprop(∃ κ : ℕ, cellInv ER (rd (xb m ρ)) κ (kcell cj.1 cj.2))),
    ← bigSep_univ_prod (fun cj : Dev nD × J => (reached ER (kcell cj.1 cj.2) 0 : sProp 𝕄))]
  iintro ⟨HI, Hat, #HR, Htok⟩
  ihave HK := (BI.bigSep_exists_pi Finset.univ (fun (cj : Dev nD × J) (κ : ℕ) => (cellInv ER (rd (xb m ρ)) κ (kcell cj.1 cj.2) : sProp 𝕄))) $$ HI
  icases HK with ⟨%K, #HI⟩
  ihave Htok := (toks_deal (F := F)) $$ Htok
  iapply (bigSep_with_persistent (R := cellsKnown (xb m ρ) K) (Φ := fun c => mine F c) (Ψ := G' m ρ) fun c _ => show _ ⊢ G' m ρ c from by
    unfold G'; iintro H; iexists K; iexact H)
  isplitr
  · unfold cellsKnown; isplitl; · iexact HI
    iexact HR
  · iapply (show iprop((bigSep Finset.univ fun c : Dev nD => bigSep Finset.univ fun j : J => (atPos ER (kcell c j) 0 ∅ 0 : sProp 𝕄))
        ∗ bigSep Finset.univ fun c : Dev nD => payToks F c) ⊢ bigSep Finset.univ fun c : Dev nD => mine F c from by
      rw [← bigSep_sep']
      refine bigSep_mono fun c _ => ?_
      unfold mine
      rw [positions]
      exact reorder _ _ _)
    isplitl [Hat] <;> iassumption

theorem launch_step : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => set_up m ρ c).trans (bigSep_fupd _ _)).trans (BI.fupd_mono (share_out m ρ))

/-! ## The pipeline's conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start (xb m ρ) c ∗ emp) := by
  unfold start G' lvls
  iintro ⟨-, Hlev, Hcr, -, HG⟩
  ihave HC := (creds_deal (F := F) c) $$ Hcr
  imodintro
  isplitl
  · isplitl [HG]; · iexact HG
    isplitl [HC]; · iexact HC
    iexact Hlev
  · iempintro

theorem first_intro (c : Dev nD) :
    iprop(start (xb m ρ) c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl]
  unfold Φ₀
  iintro ⟨Hs, -, Hr⟩
  isplitl [Hs]; · iexact Hs
  iexact Hr

theorem last_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ F c from rfl, own_zero, bar_zero]
  exact BI.Entails.refl _

theorem wait_stage (c : Dev nD) (s : SemLoc sig) (hs : lvS s ≤ 0) (O : CellTallies nD τ sig Unit) (hO : Above 0 O) :
    (levAts L lv : sProp 𝕄) ⊢ MayWait (c : Thread nD τ) s () O := mayWait_of_above (F := F) c s hs hO

theorem stage_lv : ∀ (w : Fin cfg0.W) (s : Fin (cfg0.win w).nbuf), lvS (.dma ((cfg0.win w).sem s)) ≤ 0 := by decide +kernel

theorem above_owed (c : Dev nD) : ∀ t : Fin (cfg0.N + 1), Above 0 ((dats m ρ 0 c).owed t)
  | ⟨0, _⟩ => above_O₀ c
  | ⟨_ + 1, _⟩ => above_zero 0

theorem waits (c : Dev nD) : (levAts L lv : sProp 𝕄) ⊢ Pipeline.cellsWaits cfgs (dats m ρ) () 0 c :=
  Pipeline.cellsWaits_intro cfgs (dats m ρ) () 0 c fun w s t => wait_stage c _ (stage_lv w s) _ (above_owed m ρ c t)

/-! ## The run -/

/-- What a window's array holds at the end. -/
def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- Every run ends, each device's arrays at their final contents and every semaphore at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ own_facts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_full m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (mint m ρ) $$ HX with HG
      imodintro
      isplitl [HP] <;> iassumption)
    (hglob := launch_step m ρ)
    (hA := fun _ _ => rfl) (hpf := fun _ k => k.elim0)
    (X := start (xb m ρ)) (Y := fun c => unscopedSems0 c) (Z := fun _ => iprop(emp))
    (hX := start_intro m ρ) (hin := first_intro m ρ) (hout := last_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The argument's array is as it was. -/
theorem finalA_x (c : Dev nD) : finalA m ρ c (0 : Fin 2) = (s₀ m ρ).mem (win0_0.arr.view.loc (c : Thread nD τ)) :=
  (dats (F := F) m ρ 0 c).arrAt_in (0 : Fin 2) rfl _

end Cert.AllReduce
-- ==== Proof.Arrays.lean ====
/-
What the arrays hold: a device's block of `x` is its argument, its result what the body leaves.
-/
module

public import proofs.«01_k».proof.Proof.Launch
public import Idealize.ShloMosaic.Lib.Pipeline.ValueKit

@[expose] public section

noncomputable section

namespace Cert.AllReduce

open Cert.KernelIdeal Cert.KernelIdeal.Gen
open Idealize.ShloMosaic
open Idealize.ShloMosaic.TcCoe
open Idealize.SL Idealize.SL.Sem
open Idealize.ShloMosaic.Pipeline (Dat Cfg Window)

variable {F : FTy → Type} [FloatOps F]
variable (m : (ℓ : Loc nD τ sig) → Buf (Elt F) ℓ) (ρ : Dev nD → PrngReg)

/-- A device's block of `x` is its argument. -/
theorem xb_eq (c : Dev nD) : xb m ρ c = m ((c : Thread nD τ).loc main_arg0) := by
  funext i
  unfold xb s₀
  show m ((c : Thread nD τ).loc main_arg0) ((win0_0.blk (0 : Fin 1)).view.emb i) = m ((c : Thread nD τ).loc main_arg0) i
  refine congrArg (m ((c : Thread nD τ).loc main_arg0)) (funext fun a => Fin.ext ?_)
  exact Pipeline.Window.rect_emb_val_of_index_zero win0_0 (0 : Fin 1) a rfl i

/-- A device's result is what the body leaves. -/
theorem finalA_out (c : Dev nD) : finalA m ρ c (1 : Fin 2) = outAt c (xb m ρ) := by
  unfold finalA
  refine (dats m ρ 0 c).arrAt_eq_of_after_last (1 : Fin 2) t₀ (by decide +kernel) _ fun j => ?_
  rfl

/-- Every run ends with the results in place, the arguments as they were and the semaphores at zero. -/
theorem run_all : θ_run defs (onTc (τ := τ) (main (F := F))) ⟨m, fun _ => 0, ρ⟩ (fun r => (∀ c : Dev nD,
      r.2.mem ((c : Thread nD τ).loc main_v1) = outAt c (fun d => m ((d : Thread nD τ).loc main_arg0))
      ∧ r.2.mem ((c : Thread nD τ).loc main_arg0) = m ((c : Thread nD τ).loc main_arg0)) ∧ r.2.sem = fun _ => 0) :=
  (θ_run defs _ _).mono (fun r h => ⟨fun c => ⟨(h.1 c (1 : Fin 2)).trans ((finalA_out m ρ c).trans (congrArg (outAt c) (funext (xb_eq m ρ)))),
    (h.1 c (0 : Fin 2)).trans (finalA_x m ρ c)⟩, h.2⟩) (run_main m ρ)

end Cert.AllReduce
-- ==== Proof.Sums.lean ====
/-
The sums over the extended reals: every chunk of a device's result is the sum of the four blocks.
-/
module

public import proofs.«01_k».proof.Proof.Buffers
public import Idealize.ShloMosaic.PureOps.Ideal.Laws
public import Idealize.ShloMosaic.Lib.Pointwise

@[expose] public section

noncomputable section

namespace Cert.AllReduce

open Cert.KernelIdeal Cert.KernelIdeal.Gen
open Idealize.ShloMosaic
open Idealize.ShloMosaic.TcCoe

/-- A device's place along `y`. -/
def yc (c : Dev nD) : Fin 4 := ⟨c.val / 4 % 4, Nat.mod_lt _ (by decide)⟩

/-- What is at the index of `x` that the chunk's index is of. -/
theorem half_idx (x : Blocks Ideal) (c : Dev nD) (k : Fin 8) (j : S128x512.Idx) : Hc x c k j = x c ((orect (hf c) k).emb j) := by
  unfold Hc halfOf k0_pay1
  simp only [shapeCast_id]
  show x c ((hrect c).emb ((crect k).emb j)) = _
  refine congrArg _ (funext fun a => Fin.ext ?_)
  have h0 : k0_off1 c = ![1024 * ((c.val % 4) % 2), 0] := k0_off1_eq c
  show k0_off1 c a + 1 * ((![128 * k.val, 0] : Fin 2 → Nat) a + 1 * (j a).val) = (![1024 * (hf c).val + 128 * k.val, 0] : Fin 2 → Nat) a + 1 * (j a).val
  rw [h0]
  match a with
  | ⟨0, _⟩ => show 1024 * ((c.val % 4) % 2) + 1 * (128 * k.val + 1 * (j 0).val) = 1024 * ((c.val % 4) % 2) + 128 * k.val + 1 * (j 0).val; omega
  | ⟨1, _⟩ => show 0 + 1 * (0 + 1 * (j 1).val) = 0 + 1 * (j 1).val; omega

theorem sumW_at (a b : CV Ideal) (j : S128x512.Idx) : (sumW a b j : EReal) = (a j : EReal) + (b j : EReal) := rfl
theorem sumN_at (a b : CV Ideal) (j : S128x512.Idx) : (sumN a b j : EReal) = (a j : EReal) + (b j : EReal) := by
  unfold sumN
  rw [shapeCast_id]
  rfl
theorem widen_at (a : CV Ideal) (j : S128x512.Idx) : (widen a j : EReal) = (a j : EReal) := rfl

theorem hf_yp (c : Dev nD) : hf (yp c) = hf c := by revert c; decide +kernel
theorem hf_ip (c : Dev nD) : hf (ip c) = hf c := by revert c; decide +kernel
theorem hf_zc (c : Dev nD) : hf (zc c) = ho c := by revert c; decide +kernel

/-- The four places along `y` that a total is over. -/
theorem places : ∀ c : Dev nD, (yc c, yc (yp c), yc (ip c), yc (yp (ip c))) ∈ [((0, 1, 3, 2) : Fin 4 × Fin 4 × Fin 4 × Fin 4), (1, 0, 2, 3), (2, 3, 1, 0), (3, 2, 0, 1)] := by
  decide +kernel

theorem four (X : Fin 4 → EReal) (c : Dev nD) : (X (yc c) + X (yc (yp c))) + (X (yc (ip c)) + X (yc (yp (ip c)))) = ∑ k, X k := by
  rw [Fin.sum_univ_four]
  have h := places c
  simp only [List.mem_cons, Prod.mk.injEq, List.not_mem_nil, or_false] at h
  rcases h with ⟨h1, h2, h3, h4⟩ | ⟨h1, h2, h3, h4⟩ | ⟨h1, h2, h3, h4⟩ | ⟨h1, h2, h3, h4⟩ <;> rw [h1, h2, h3, h4] <;> ac_rfl

section
variable (X : Fin 4 → S2048x512.Idx → EReal) (x : Blocks Ideal) (hx : ∀ c i, (x c i : EReal) = X (yc c) i)
include hx

theorem Pc_at (c : Dev nD) (k : Fin 8) (j : S128x512.Idx) :
    (Pc x c k j : EReal) = X (yc c) ((orect (hf c) k).emb j) + X (yc (yp c)) ((orect (hf c) k).emb j) := by
  unfold Pc
  rw [sumN_at, half_idx, half_idx, hf_yp, hx, hx]

theorem Wc_at (c : Dev nD) (k : Fin 8) (j : S128x512.Idx) : (Wc x c k j : EReal) = ∑ y, X y ((orect (hf c) k).emb j) := by
  unfold Wc
  rw [sumW_at, Pc_at X x hx, Pc_at X x hx, hf_ip]
  exact four (fun y => X y ((orect (hf c) k).emb j)) c

theorem Tc_at (c : Dev nD) (k : Fin 8) (j : S128x512.Idx) : (Tc x c k j : EReal) = ∑ y, X y ((orect (hf c) k).emb j) := by
  unfold Tc
  rw [sumN_at, Pc_at X x hx, Pc_at X x hx, hf_ip]
  exact four (fun y => X y ((orect (hf c) k).emb j)) c

theorem tt_at (c : Dev nD) (k : Fin 8) (j : S128x512.Idx) : (tt x c k j : EReal) = ∑ y, X y ((orect (hf c) k).emb j) := by
  unfold tt
  split
  · exact Tc_at X x hx c k j
  · rw [Tc_at X x hx, hf_yp]

theorem resC_at (c : Dev nD) (h : Fin 2) (k : Fin 8) (j : S128x512.Idx) : (resC c x h k j : EReal) = ∑ y, X y ((orect h k).emb j) := by
  unfold resC
  split
  · rename_i e
    subst e
    split
    · exact Wc_at X x hx c k j
    · exact (widen_at _ j).trans (tt_at X x hx c k j)
  · rename_i e
    have : hf (zc c) = h := by
      rw [hf_zc]
      have := hf_ne_ho c
      omega
    refine (widen_at _ j).trans ?_
    rw [tt_at X x hx, this]

/-- A device's result is the sum of the four blocks. -/
theorem outAt_at (c : Dev nD) (i : S2048x512.Idx) : (outAt c x i : EReal) = ∑ y, X y i := by
  obtain ⟨⟨h, k⟩, j, rfl⟩ := in_rect orects orect_disjoint orect_cover i
  exact (congrFun (outAt_chunk c x h k) j).trans (resC_at X x hx c h k j)

end

end Cert.AllReduce
-- ==== Proof.Reference.lean ====
/-
The reference's result: the sum of the four blocks of rows; and which block a device holds.
-/
module

public import proofs.«01_k».proof.Proof.Sums
public import proofs.«01_k».proof.Proof.Gen.ReferenceIdeal.Run
public import Idealize.ShloMosaic.Lib.Layout

@[expose] public section

noncomputable section

namespace Cert.AllReduce

open Idealize.ShloMosaic
open Idealize.ShloMosaic.TcCoe
open Idealize.SL.Sem

/-- The index, in the whole array, of an index of a block. -/
def wide (k : Fin 4) (i : (⟨2, ![2048, 512]⟩ : Shape).Idx) : (⟨2, ![8192, 512]⟩ : Shape).Idx := fun a => match a with
  | ⟨0, _⟩ => ⟨2048 * k.val + (i 0).val, by
      have h : (i 0).val < 2048 := (i 0).isLt
      have := k.isLt
      show _ < 8192
      omega⟩
  | ⟨1, _⟩ => ⟨(i 1).val, (i 1).isLt⟩

/-- What the reference computes of the whole array. -/
def refOf (A : (⟨Cert.ReferenceIdeal.S8192x512, .bf16⟩ : BufTy).Contents (Elt Ideal)) : (⟨Cert.ReferenceIdeal.S2048x512, .f32⟩ : BufTy).Contents (Elt Ideal) :=
  extf (F := Ideal) .f32 (truncf .bf16 (Host.reduceAdd (extf .f32 (shapeCast _ A Cert.ReferenceIdeal.Gen.shapeCasts_S8192x512_S4x2048x512) Cert.ReferenceIdeal.Gen.bitsLt_bf16_f32)
    (constant Cert.ReferenceIdeal.S_ .f32 0x00000000#32) Cert.ReferenceIdeal.Gen.reducesTo_S4x2048x512_S2048x512_d0 Cert.ReferenceIdeal.Gen.h_S_) Cert.ReferenceIdeal.Gen.bitsLt_bf16_f32) Cert.ReferenceIdeal.Gen.bitsLt_bf16_f32

/-- The reshaped array's index is the block's row. -/
theorem reshape_at {α : Type} (A : Cert.ReferenceIdeal.S8192x512.Idx → α) (h : Cert.ReferenceIdeal.S8192x512.ShapeCasts Cert.ReferenceIdeal.S4x2048x512)
    (k : Fin 4) (i : (⟨2, ![2048, 512]⟩ : Shape).Idx) : shapeCast Cert.ReferenceIdeal.S4x2048x512 A h (ix3 k (i 0) (i 1)) = A (wide k i) := by
  rw [Pointwise.shapeCast_apply]
  refine congrArg A ?_
  have h2 := rowMajor_val2 (wide k i) 512 rfl
  have h3 := rowMajor_val3 (ix3 k (i 0) (i 1) : (⟨3, ![4, 2048, 512]⟩ : Shape).Idx) 1048576 512 (by simp) rfl
  refine Shape.reshapeEquiv_eq_of_rowMajor _ (h2.trans (Eq.trans ?_ h3.symm))
  have e0 : ((wide k i) 0).val = 2048 * k.val + (i 0).val := rfl
  have e1 : ((wide k i) 1).val = (i 1).val := rfl
  have f0 : ((ix3 k (i 0) (i 1) : (⟨3, ![4, 2048, 512]⟩ : Shape).Idx) 0).val = k.val := rfl
  have f1 : ((ix3 k (i 0) (i 1) : (⟨3, ![4, 2048, 512]⟩ : Shape).Idx) 1).val = (i 0).val := rfl
  have f2 : ((ix3 k (i 0) (i 1) : (⟨3, ![4, 2048, 512]⟩ : Shape).Idx) 2).val = (i 1).val := rfl
  rw [e0, e1, f0, f1, f2]
  omega

theorem refOf_at (A : (⟨Cert.ReferenceIdeal.S8192x512, .bf16⟩ : BufTy).Contents (Elt Ideal)) (i : (⟨2, ![2048, 512]⟩ : Shape).Idx) :
    (refOf A i : EReal) = ∑ k : Fin 4, (A (wide k i) : EReal) := by
  show Ideal.hostReduceAdd _ _ (Ideal.ofBits .f32 0x00000000#32) i = _
  rw [Ideal.hostReduceAdd_r3_a0, Ideal.ofBits_zero_f32, zero_add]
  exact Finset.sum_congr rfl fun k _ => reshape_at A _ k i

/-- A device holds the block of its place along `y`. -/
theorem block_at {α : Type} (A : (⟨2, ![8192, 512]⟩ : Shape).Idx → α) (c : Dev Cert.KernelIdeal.nD) (i : (⟨2, ![2048, 512]⟩ : Shape).Idx) :
    Layout.blockN ⟨2, ![2048, 512]⟩ ⟨2, ![8192, 512]⟩ (Layout.meshBlock [2, 4, 4] ![[1], []] c) A (by decide) i = A (wide (yc c) i) := by
  rw [Layout.blockN_apply]
  refine congrArg A (funext fun a => Fin.ext ?_)
  rw [Layout.TilesN.idx_val]
  match a with
  | ⟨0, _⟩ =>
    show Layout.meshLin [2, 4, 4] c.val [1] * 2048 + (i 0).val = 2048 * (c.val / 4 % 4) + (i 0).val
    have : Layout.meshLin [2, 4, 4] c.val [1] = c.val / 4 % 4 := by revert c; decide +kernel
    omega
  | ⟨1, _⟩ =>
    show Layout.meshLin [2, 4, 4] c.val [] * 512 + (i 1).val = (i 1).val
    have : Layout.meshLin [2, 4, 4] c.val [] = 0 := rfl
    omega

/-- Where the devices hold the blocks of an array, each one's result is the reference's. -/
theorem outAt_ref (A : (⟨Cert.ReferenceIdeal.S8192x512, .bf16⟩ : BufTy).Contents (Elt Ideal)) (x : Blocks Ideal)
    (hx : ∀ c, x c = Layout.blockN ⟨2, ![2048, 512]⟩ ⟨2, ![8192, 512]⟩ (Layout.meshBlock [2, 4, 4] ![[1], []] c) A) (c : Dev Cert.KernelIdeal.nD) :
    outAt c x = refOf A := by
  funext i
  refine (outAt_at (fun k i => A (wide k i)) x (fun c i => ?_) c i).trans (refOf_at A i).symm
  rw [hx c]
  exact block_at A c i

/-- The reference's run, the semaphores with it. -/
theorem ref_run (m : (ℓ : Loc Cert.ReferenceIdeal.nD Cert.ReferenceIdeal.τ Cert.ReferenceIdeal.sig) → Buf (Elt Ideal) ℓ) (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ (fun r =>
      (∀ c : Dev Cert.ReferenceIdeal.nD,
        r.2.mem ((c : Thread Cert.ReferenceIdeal.nD Cert.ReferenceIdeal.τ).loc Cert.ReferenceIdeal.main_v4) = refOf (m ((c : Thread Cert.ReferenceIdeal.nD Cert.ReferenceIdeal.τ).loc Cert.ReferenceIdeal.main_arg0))
        ∧ r.2.mem ((c : Thread Cert.ReferenceIdeal.nD Cert.ReferenceIdeal.τ).loc Cert.ReferenceIdeal.main_arg0) = m ((c : Thread Cert.ReferenceIdeal.nD Cert.ReferenceIdeal.τ).loc Cert.ReferenceIdeal.main_arg0))
      ∧ r.2.sem = fun _ => 0) :=
  (θ_run _ _ _).mono (fun r h => ⟨h, sem_eq_zero_of_no_sems (by decide) r.2⟩) (Cert.ReferenceIdeal.Value.run m ρ)

end Cert.AllReduce
-- ==== Proof.lean ====
/-
The certificate: the three frames, the idealization, and the sum over the extended reals.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Arrays
public import proofs.«01_k».proof.Proof.Reference
public import Idealize.ShloMosaic.Adequacy
public import Idealize.ShloMosaic.Init

@[expose] public section

noncomputable section

namespace Cert.Proof

open Idealize.ShloMosaic Idealize.SL.Sem

/-- The idealized kernel's run ends with its arguments as they were, whatever the float values. -/
theorem frame_any {F : FTy → Type} [FloatOps F] (m : (ℓ : Loc Cert.KernelIdeal.nD Cert.KernelIdeal.τ Cert.KernelIdeal.sig) → Buf (Elt F) ℓ)
    (ρ : Dev Cert.KernelIdeal.nD → PrngReg) :
    θ_run (Cert.KernelIdeal.defs (F := F)) (onTc (τ := Cert.KernelIdeal.τ) (Cert.KernelIdeal.main (F := F))) ⟨m, fun _ => 0, ρ⟩ (fun r =>
      (∀ c : Dev Cert.KernelIdeal.nD, r.2.mem ((c.tc : Thread Cert.KernelIdeal.nD Cert.KernelIdeal.τ).loc Cert.KernelIdeal.main_arg0)
        = m ((c.tc : Thread Cert.KernelIdeal.nD Cert.KernelIdeal.τ).loc Cert.KernelIdeal.main_arg0)) ∧ r.2.sem = fun _ => 0) :=
  (θ_run (Cert.KernelIdeal.defs (F := F)) _ _).mono (fun _ h => ⟨fun c => (h.1 c).2, h.2⟩) (Cert.AllReduce.run_all (F := F) m ρ)

/-- The two body tables are one. -/
theorem bodies_eq {F : FTy → Type} [FloatOps F] : Cert.Kernel.defs₀ (F := F) = Cert.KernelIdeal.defs₀ (F := F) :=
  congrArg Defs.onTc (funext fun l => match l with
    | 0 => funext fun ⟨_, _⟩ => rfl)

theorem defs_eq {F : FTy → Type} [FloatOps F] : Cert.Kernel.defs (F := F) = Cert.KernelIdeal.defs (F := F) :=
  congrArg (Pipeline.defs (Cert.KernelIdeal.pcfgs (F := F))) bodies_eq

/-- The printed kernel's text is the idealized kernel's. -/
theorem frame_kernel : Cert.quiescent_Kernel := fun m ρ _ => by
  have h := frame_any (F := Bits) m ρ
  rw [← defs_eq] at h
  exact h

theorem frame_ideal : Cert.quiescent_KernelIdeal := fun m ρ _ => frame_any (F := Ideal) m ρ

theorem frame_reference : Cert.quiescent_ReferenceIdeal := fun m ρ _ =>
  (θ_run (Cert.ReferenceIdeal.defs (F := Ideal)) _ _).mono (fun _ h => ⟨fun c => (h.1 c).2, h.2⟩) (Cert.AllReduce.ref_run m ρ)

/-- Every device's result is the reference's of the whole array. -/
theorem algebraic : Cert.algebraic_KernelIdeal_ReferenceIdeal := fun m ρ m' ρ' _ hx =>
  ⟨Cert.AllReduce.refOf (m' (((0 : Dev Cert.ReferenceIdeal.nD).tc : Thread Cert.ReferenceIdeal.nD Cert.ReferenceIdeal.τ).loc Cert.ReferenceIdeal.main_arg0)),
    (θ_run (Cert.KernelIdeal.defs (F := Ideal)) _ _).mono
      (fun _ h c => ⟨(h.1 c).1.trans (Cert.AllReduce.outAt_ref _ _ hx c), (h.1 c).2⟩) (Cert.AllReduce.run_all (F := Ideal) m ρ),
    (θ_run (Cert.ReferenceIdeal.defs (F := Ideal)) _ _).mono (fun _ h => h.1 0) (Cert.AllReduce.ref_run m' ρ')⟩

theorem claim : Cert.Claim := ⟨Cert.Kernel.Gen.facts, Cert.KernelIdeal.Gen.facts, Cert.ReferenceIdeal.Gen.facts,
  frame_kernel, frame_ideal, frame_reference, trivial, algebraic⟩

end Cert.Proof

end
